-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_codebooks [hPre_finite_codebooks : Cert.Pre_finite_codebooks.Facts] (m : (ℓ : Loc Cert.KernelIdeal.nD Cert.KernelIdeal.τ Cert.KernelIdeal.sig) → Buf (Elt Ideal) ℓ) : Prop :=
  ∀ c : Dev Cert.KernelIdeal.nD,
    (Cert.Pre_finite_codebooks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_codebooks [hPre_finite_codebooks : Cert.Pre_finite_codebooks.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_codebooks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_codebooks [hKernelIdeal : Cert.KernelIdeal.Facts] [hPre_finite_codebooks : Cert.Pre_finite_codebooks.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_codebooks m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_codebooks [hReferenceIdeal : Cert.ReferenceIdeal.Facts] [hPre_finite_codebooks : Cert.Pre_finite_codebooks.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_codebooks m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_codebooks [hKernelIdeal : Cert.KernelIdeal.Facts] [hReferenceIdeal : Cert.ReferenceIdeal.Facts] [hPre_finite_codebooks : Cert.Pre_finite_codebooks.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_codebooks m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_codebooks : Cert.Pre_finite_codebooks.Facts),
    quiescent_Kernel (hKernel := hKernel)
    ∧ quiescent_KernelIdeal (hKernelIdeal := hKernelIdeal)
    ∧ quiescent_KernelIdeal_pre_finite_codebooks (hKernelIdeal := hKernelIdeal) (hPre_finite_codebooks := hPre_finite_codebooks)
    ∧ quiescent_ReferenceIdeal (hReferenceIdeal := hReferenceIdeal)
    ∧ quiescent_ReferenceIdeal_pre_finite_codebooks (hReferenceIdeal := hReferenceIdeal) (hPre_finite_codebooks := hPre_finite_codebooks)
    ∧ preserves_Kernel_KernelIdeal
    ∧ algebraic_KernelIdeal_ReferenceIdeal_pre_finite_codebooks (hKernelIdeal := hKernelIdeal) (hReferenceIdeal := hReferenceIdeal) (hPre_finite_codebooks := hPre_finite_codebooks)
-- ==== Pre_finite_codebooks.lean ====
abbrev S64x1024x32 : Shape := ⟨3, ![64, 1024, 32]⟩
abbrev S2x512x32 : Shape := ⟨3, ![2, 512, 32]⟩
abbrev S_ : Shape := ⟨0, ![]⟩

class Facts : Prop where
  bcast_S_S2x512x32 : S_.BroadcastsInDim S2x512x32 (![] : Fin 0 → Fin S2x512x32.rank)

variable [Facts]

def fn {F : FTy → Type} [FloatOps F] (main_arg0 : FVec F S64x1024x32 .f32) (main_arg1 : FVec F S2x512x32 .f32) : IVec S2x512x32 1 :=
  let main_v0 : FVec F S2x512x32 .f32 := Host.absf main_arg1
  let main_cst : FVec F S_ .f32 := constant S_ .f32 0x7F800000#32
  let main_v1 : FVec F S2x512x32 .f32 := broadcastInDim S2x512x32 ![] bcast_S_S2x512x32 main_cst
  let main_v2 : IVec S2x512x32 1 := cmpf .olt main_v0 main_v1
  main_v2
-- ==== Kernel.lean ====
abbrev S64x1024x32 : Shape := ⟨3, ![64, 1024, 32]⟩
abbrev S2x512x32 : Shape := ⟨3, ![2, 512, 32]⟩
abbrev S65536x32 : Shape := ⟨2, ![65536, 32]⟩
abbrev S16x1x4096 : Shape := ⟨3, ![16, 1, 4096]⟩
abbrev S64x1024 : Shape := ⟨2, ![64, 1024]⟩
abbrev S64x1024x1 : Shape := ⟨3, ![64, 1024, 1]⟩
abbrev S64x1024x2 : Shape := ⟨3, ![64, 1024, 2]⟩
abbrev S4096x32 : Shape := ⟨2, ![4096, 32]⟩
abbrev S1x1x4096 : Shape := ⟨3, ![1, 1, 4096]⟩
abbrev S1x512x32 : Shape := ⟨3, ![1, 512, 32]⟩
abbrev S512x32 : Shape := ⟨2, ![512, 32]⟩
abbrev S4096 : Shape := ⟨1, ![4096]⟩
abbrev S4096x1 : Shape := ⟨2, ![4096, 1]⟩
abbrev S512 : Shape := ⟨1, ![512]⟩
abbrev S1x512 : Shape := ⟨2, ![1, 512]⟩
abbrev S4096x512 : Shape := ⟨2, ![4096, 512]⟩
abbrev S512x96 : Shape := ⟨2, ![512, 96]⟩
abbrev S4096x96 : Shape := ⟨2, ![4096, 96]⟩

abbrev nBuf : Space → Nat
  | .hbm => 12
  | .vmem => 9
  | .smem => 0
  | _ => 0

abbrev bufTy : (tb : Table) → Fin (tcTables nBuf tb) → BufTy
  | .hbm, ⟨0, _⟩ => ⟨S64x1024x32, .f32⟩
  | .hbm, ⟨1, _⟩ => ⟨S2x512x32, .f32⟩
  | .hbm, ⟨2, _⟩ => ⟨S65536x32, .f32⟩
  | .hbm, ⟨3, _⟩ => ⟨S16x1x4096, .i32⟩
  | .hbm, ⟨4, _⟩ => ⟨S16x1x4096, .i32⟩
  | .hbm, ⟨5, _⟩ => ⟨S65536x32, .f32⟩
  | .hbm, ⟨6, _⟩ => ⟨S64x1024, .i32⟩
  | .hbm, ⟨7, _⟩ => ⟨S64x1024, .i32⟩
  | .hbm, ⟨8, _⟩ => ⟨S64x1024x1, .i32⟩
  | .hbm, ⟨9, _⟩ => ⟨S64x1024x1, .i32⟩
  | .hbm, ⟨10, _⟩ => ⟨S64x1024x2, .i32⟩
  | .hbm, ⟨11, _⟩ => ⟨S64x1024x32, .f32⟩
  | .local _ .vmem, ⟨0, _⟩ => ⟨S4096x32, .f32⟩
  | .local _ .vmem, ⟨1, _⟩ => ⟨S4096x32, .f32⟩
  | .local _ .vmem, ⟨2, _⟩ => ⟨S2x512x32, .f32⟩
  | .local _ .vmem, ⟨3, _⟩ => ⟨S1x1x4096, .i32⟩
  | .local _ .vmem, ⟨4, _⟩ => ⟨S1x1x4096, .i32⟩
  | .local _ .vmem, ⟨5, _⟩ => ⟨S1x1x4096, .i32⟩
  | .local _ .vmem, ⟨6, _⟩ => ⟨S1x1x4096, .i32⟩
  | .local _ .vmem, ⟨7, _⟩ => ⟨S4096x32, .f32⟩
  | .local _ .vmem, ⟨8, _⟩ => ⟨S4096x32, .f32⟩
  | _, _ => ⟨S64x1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_call0_v1_1 : Ref sig .tc := ⟨.hbm, 4, rfl⟩
abbrev main_call0_v1_2 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S64x1024x32 : Shape := ⟨3, ![64, 1024, 32]⟩
abbrev S2x512x32 : Shape := ⟨3, ![2, 512, 32]⟩
abbrev S_ : Shape := ⟨0, ![]⟩
abbrev S1x512x32 : Shape := ⟨3, ![1, 512, 32]⟩
abbrev S512x32 : Shape := ⟨2, ![512, 32]⟩
abbrev S64x1024 : Shape := ⟨2, ![64, 1024]⟩
abbrev S64x1024x1 : Shape := ⟨3, ![64, 1024, 1]⟩
abbrev S64x1024x512 : Shape := ⟨3, ![64, 1024, 512]⟩
abbrev S512 : Shape := ⟨1, ![512]⟩
abbrev S1x1x512 : Shape := ⟨3, ![1, 1, 512]⟩
abbrev S1 : Shape := ⟨1, ![1]⟩
abbrev S1x1x1 : Shape := ⟨3, ![1, 1, 1]⟩
abbrev S64x1024x2 : Shape := ⟨3, ![64, 1024, 2]⟩

abbrev nBuf : Space → Nat
  | .hbm => 105
  | .vmem => 0
  | .smem => 0
  | _ => 0

abbrev bufTy : (tb : Table) → Fin (tcTables nBuf tb) → BufTy
  | .hbm, ⟨0, _⟩ => ⟨S64x1024x32, .f32⟩
  | .hbm, ⟨1, _⟩ => ⟨S2x512x32, .f32⟩
  | .hbm, ⟨2, _⟩ => ⟨S_, .f32⟩
  | .hbm, ⟨3, _⟩ => ⟨S64x1024x32, .f32⟩
  | .hbm, ⟨4, _⟩ => ⟨S64x1024x32, .f32⟩
  | .hbm, ⟨5, _⟩ => ⟨S1x512x32, .f32⟩
  | .hbm, ⟨6, _⟩ => ⟨S512x32, .f32⟩
  | .hbm, ⟨7, _⟩ => ⟨S64x1024x32, .f32⟩
  | .hbm, ⟨8, _⟩ => ⟨S_, .f32⟩
  | .hbm, ⟨9, _⟩ => ⟨S64x1024, .f32⟩
  | .hbm, ⟨10, _⟩ => ⟨S64x1024x1, .f32⟩
  | .hbm, ⟨11, _⟩ => ⟨S64x1024x512, .f32⟩
  | .hbm, ⟨12, _⟩ => ⟨S512x32, .f32⟩
  | .hbm, ⟨13, _⟩ => ⟨S_, .f32⟩
  | .hbm, ⟨14, _⟩ => ⟨S512, .f32⟩
  | .hbm, ⟨15, _⟩ => ⟨S1x1x512, .f32⟩
  | .hbm, ⟨16, _⟩ => ⟨S_, .f32⟩
  | .hbm, ⟨17, _⟩ => ⟨S64x1024x512, .f32⟩
  | .hbm, ⟨18, _⟩ => ⟨S64x1024x512, .f32⟩
  | .hbm, ⟨19, _⟩ => ⟨S64x1024x512, .f32⟩
  | .hbm, ⟨20, _⟩ => ⟨S64x1024x512, .f32⟩
  | .hbm, ⟨21, _⟩ => ⟨S64x1024x512, .f32⟩
  | .hbm, ⟨22, _⟩ => ⟨S64x1024x512, .f32⟩
  | .hbm, ⟨23, _⟩ => ⟨S64x1024x512, .i32⟩
  | .hbm, ⟨24, _⟩ => ⟨S_, .f32⟩
  | .hbm, ⟨25, _⟩ => ⟨S_, .i32⟩
  | .hbm, ⟨26, _⟩ => ⟨S64x1024, .f32⟩
  | .hbm, ⟨27, _⟩ => ⟨S64x1024, .i32⟩
  | .hbm, ⟨28, _⟩ => ⟨S_, .i32⟩
  | .hbm, ⟨29, _⟩ => ⟨S64x1024, .i32⟩
  | .hbm, ⟨30, _⟩ => ⟨S64x1024, .i1⟩
  | .hbm, ⟨31, _⟩ => ⟨S_, .i32⟩
  | .hbm, ⟨32, _⟩ => ⟨S64x1024, .i32⟩
  | .hbm, ⟨33, _⟩ => ⟨S64x1024, .i32⟩
  | .hbm, ⟨34, _⟩ => ⟨S64x1024, .i32⟩
  | .hbm, ⟨35, _⟩ => ⟨S64x1024x1, .i32⟩
  | .hbm, ⟨36, _⟩ => ⟨S1, .i32⟩
  | .hbm, ⟨37, _⟩ => ⟨S_, .i32⟩
  | .hbm, ⟨38, _⟩ => ⟨S64x1024x1, .i32⟩
  | .hbm, ⟨39, _⟩ => ⟨S64x1024x1, .i1⟩
  | .hbm, ⟨40, _⟩ => ⟨S1x1x1, .i32⟩
  | .hbm, ⟨41, _⟩ => ⟨S64x1024x1, .i32⟩
  | .hbm, ⟨42, _⟩ => ⟨S64x1024x1, .i1⟩
  | .hbm, ⟨43, _⟩ => ⟨S64x1024x1, .i1⟩
  | .hbm, ⟨44, _⟩ => ⟨S_, .i1⟩
  | .hbm, ⟨45, _⟩ => ⟨S64x1024, .i1⟩
  | .hbm, ⟨46, _⟩ => ⟨S64x1024x32, .f32⟩
  | .hbm, ⟨47, _⟩ => ⟨S64x1024x32, .i1⟩
  | .hbm, ⟨48, _⟩ => ⟨S_, .f32⟩
  | .hbm, ⟨49, _⟩ => ⟨S64x1024x32, .f32⟩
  | .hbm, ⟨50, _⟩ => ⟨S64x1024x32, .f32⟩
  | .hbm, ⟨51, _⟩ => ⟨S64x1024x32, .f32⟩
  | .hbm, ⟨52, _⟩ => ⟨S64x1024x32, .f32⟩
  | .hbm, ⟨53, _⟩ => ⟨S1x512x32, .f32⟩
  | .hbm, ⟨54, _⟩ => ⟨S512x32, .f32⟩
  | .hbm, ⟨55, _⟩ => ⟨S64x1024x32, .f32⟩
  | .hbm, ⟨56, _⟩ => ⟨S_, .f32⟩
  | .hbm, ⟨57, _⟩ => ⟨S64x1024, .f32⟩
  | .hbm, ⟨58, _⟩ => ⟨S64x1024x1, .f32⟩
  | .hbm, ⟨59, _⟩ => ⟨S64x1024x512, .f32⟩
  | .hbm, ⟨60, _⟩ => ⟨S512x32, .f32⟩
  | .hbm, ⟨61, _⟩ => ⟨S_, .f32⟩
  | .hbm, ⟨62, _⟩ => ⟨S512, .f32⟩
  | .hbm, ⟨63, _⟩ => ⟨S1x1x512, .f32⟩
  | .hbm, ⟨64, _⟩ => ⟨S_, .f32⟩
  | .hbm, ⟨65, _⟩ => ⟨S64x1024x512, .f32⟩
  | .hbm, ⟨66, _⟩ => ⟨S64x1024x512, .f32⟩
  | .hbm, ⟨67, _⟩ => ⟨S64x1024x512, .f32⟩
  | .hbm, ⟨68, _⟩ => ⟨S64x1024x512, .f32⟩
  | .hbm, ⟨69, _⟩ => ⟨S64x1024x512, .f32⟩
  | .hbm, ⟨70, _⟩ => ⟨S64x1024x512, .f32⟩
  | .hbm, ⟨71, _⟩ => ⟨S64x1024x512, .i32⟩
  | .hbm, ⟨72, _⟩ => ⟨S_, .f32⟩
  | .hbm, ⟨73, _⟩ => ⟨S_, .i32⟩
  | .hbm, ⟨74, _⟩ => ⟨S64x1024, .f32⟩
  | .hbm, ⟨75, _⟩ => ⟨S64x1024, .i32⟩
  | .hbm, ⟨76, _⟩ => ⟨S_, .i32⟩
  | .hbm, ⟨77, _⟩ => ⟨S64x1024, .i32⟩
  | .hbm, ⟨78, _⟩ => ⟨S64x1024, .i1⟩
  | .hbm, ⟨79, _⟩ => ⟨S_, .i32⟩
  | .hbm, ⟨80, _⟩ => ⟨S64x1024, .i32⟩
  | .hbm, ⟨81, _⟩ => ⟨S64x1024, .i32⟩
  | .hbm, ⟨82, _⟩ => ⟨S64x1024, .i32⟩
  | .hbm, ⟨83, _⟩ => ⟨S64x1024x1, .i32⟩
  | .hbm, ⟨84, _⟩ => ⟨S1, .i32⟩
  | .hbm, ⟨85, _⟩ => ⟨S_, .i32⟩
  | .hbm, ⟨86, _⟩ => ⟨S64x1024x1, .i32⟩
  | .hbm, ⟨87, _⟩ => ⟨S64x1024x1, .i1⟩
  | .hbm, ⟨88, _⟩ => ⟨S1x1x1, .i32⟩
  | .hbm, ⟨89, _⟩ => ⟨S64x1024x1, .i32⟩
  | .hbm, ⟨90, _⟩ => ⟨S64x1024x1, .i1⟩
  | .hbm, ⟨91, _⟩ => ⟨S64x1024x1, .i1⟩
  | .hbm, ⟨92, _⟩ => ⟨S_, .i1⟩
  | .hbm, ⟨93, _⟩ => ⟨S64x1024, .i1⟩
  | .hbm, ⟨94, _⟩ => ⟨S64x1024x32, .f32⟩
  | .hbm, ⟨95, _⟩ => ⟨S64x1024x32, .i1⟩
  | .hbm, ⟨96, _⟩ => ⟨S_, .f32⟩
  | .hbm, ⟨97, _⟩ => ⟨S64x1024x32, .f32⟩
  | .hbm, ⟨98, _⟩ => ⟨S64x1024x32, .f32⟩
  | .hbm, ⟨99, _⟩ => ⟨S64x1024x32, .f32⟩
  | .hbm, ⟨100, _⟩ => ⟨S64x1024x1, .i32⟩
  | .hbm, ⟨101, _⟩ => ⟨S64x1024x1, .i32⟩
  | .hbm, ⟨102, _⟩ => ⟨S64x1024x2, .i32⟩
  | .hbm, ⟨103, _⟩ => ⟨S64x1024x32, .f32⟩
  | .hbm, ⟨104, _⟩ => ⟨S64x1024x32, .f32⟩
  | _, _ => ⟨S64x1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_cst : Ref sig .tc := ⟨.hbm, 24, rfl⟩
abbrev main_call0_c : Ref sig .tc := ⟨.hbm, 25, rfl⟩
abbrev main_call0_v1_0 : Ref sig .tc := ⟨.hbm, 26, rfl⟩
abbrev main_v17 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_cst_3 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_cst_4 : Ref sig .tc := ⟨.hbm, 61, rfl⟩
abbrev main_v28 : Ref sig .tc := ⟨.hbm, 62, rfl⟩
abbrev main_v29 : Ref sig .tc := ⟨.hbm, 63, rfl⟩
abbrev main_cst_5 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_call2_v0 : Ref sig .tc := ⟨.hbm, 71, rfl⟩
abbrev main_call2_cst : Ref sig .tc := ⟨.hbm, 72, rfl⟩
abbrev main_call2_c : Ref sig .tc := ⟨.hbm, 73, rfl⟩
abbrev main_call2_v1_0 : Ref sig .tc := ⟨.hbm, 74, rfl⟩
abbrev main_v36 : Ref sig .tc := ⟨.hbm, 75, rfl⟩
abbrev main_call3_c : Ref sig .tc := ⟨.hbm, 76, rfl⟩
abbrev main_call3_v0 : Ref sig .tc := ⟨.hbm, 77, rfl⟩
abbrev main_call3_v1 : Ref sig .tc := ⟨.hbm, 78, rfl⟩
abbrev main_call3_c_0 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_v5 : Ref sig .tc := ⟨.hbm, 83, rfl⟩
abbrev main_call3_c_1 : Ref sig .tc := ⟨.hbm, 84, rfl⟩
abbrev main_call3_c_2 : Ref sig .tc := ⟨.hbm, 85, rfl⟩
abbrev main_call3_v6 : Ref sig .tc := ⟨.hbm, 86, rfl⟩
abbrev main_call3_v7 : Ref sig .tc := ⟨.hbm, 87, rfl⟩
abbrev main_call3_v8 : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_call3_c_3 : Ref sig .tc := ⟨.hbm, 92, rfl⟩
abbrev main_call3_v12 : Ref sig .tc := ⟨.hbm, 93, rfl⟩
abbrev main_call3_v13 : Ref sig .tc := ⟨.hbm, 94, rfl⟩
abbrev main_call3_v14 : Ref sig .tc := ⟨.hbm, 95, rfl⟩
abbrev main_call3_cst : Ref sig .tc := ⟨.hbm, 96, rfl⟩
abbrev main_call3_v15 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩

abbrev nD : Nat := 1
abbrev τ : Topo := Topo.v7x

variable {F : FTy → Type} [FloatOps F]
-- ==== Proof.Ref.lean ====
/- The reference's run: two passes of the same four steps. `refDist` is the distance of every token to every code,
   `refIndex` the number of the nearest code, `refTake` the code of that number and `refPass` the three in turn;
   `run` reads both results of the reference off its list of operations in these words. -/
module

public import proofs.«01_k».proof.Proof.Gen.ReferenceIdeal
public import Idealize.ShloMosaic.PureOps.Ideal
public import Idealize.ShloMosaic.Lib.Claim
public import Idealize.ShloMosaic.Lib.StableHlo.ReadAt

@[expose] public section

noncomputable section

namespace Cert.Ref

open Idealize.ShloMosaic Idealize.SL.Sem Cert.ReferenceIdeal

/-- The squared distance, without the square root, of every token to every code: |z|² − 2⟨z, c⟩ + |c|². -/
def refDist (r : FVec Ideal S64x1024x32 .f32) (cb : FVec Ideal S512x32 .f32) : FVec Ideal S64x1024x512 .f32 :=
  addf
    (subf
      (broadcastInDim S64x1024x512 ![0, 1, 2] Gen.bcast_S64x1024x1_S64x1024x512_0_1_2
        (broadcastInDim S64x1024x1 ![0, 1] Gen.bcast_S64x1024_S64x1024x1_0_1
          (Host.reduceAdd (mulf r r) (constant S_ .f32 0x00000000#32) Gen.reducesTo_S64x1024x32_S64x1024_d2 Gen.h_S_)))
      (mulf (broadcastInDim S64x1024x512 ![] Gen.bcast_S_S64x1024x512 (constant S_ .f32 0x40000000#32))
        (Host.dotGeneral dot_S64x1024x32_S512x32_S64x1024x512_2_1_01_0_n_n none r cb)))
    (broadcastInDim S64x1024x512 ![0, 1, 2] Gen.bcast_S1x1x512_S64x1024x512_0_1_2
      (broadcastInDim S1x1x512 ![2] Gen.bcast_S512_S1x1x512_2
        (Host.reduceAdd (mulf cb cb) (constant S_ .f32 0x00000000#32) Gen.reducesTo_S512x32_S512_d1 Gen.h_S_)))

/-- The number of the nearest code of every token. -/
def refIndex (x : FVec Ideal S64x1024x512 .f32) : IVec S64x1024 32 := fun j =>
  (Host.argReduce reducer_argmin_f32_i32 x (iotaInDim S64x1024x512 32 2) (constant S_ .f32 0x7F800000#32)
    (constantI S_ 32 0#32) Gen.reducesTo_S64x1024x512_S64x1024_d2 Gen.h_S_ j).2

/-- The row each token's number is read at: a negative number counts from the end. -/
def refRow (idx : IVec S64x1024 32) : IVec S64x1024x1 32 :=
  broadcastInDim S64x1024x1 ![0, 1] Gen.bcast_S64x1024_S64x1024x1_0_1
    (select (cmpi .slt idx (broadcastInDim S64x1024 ![] Gen.bcast_S_S64x1024 (constantI S_ 32 0#32)))
      (addi idx (broadcastInDim S64x1024 ![] Gen.bcast_S_S64x1024 (constantI S_ 32 512#32))) idx)

/-- Whether each token's row is one of the codebook's. -/
def refInside (row : IVec S64x1024x1 32) : IVec S64x1024 1 :=
  Host.reduce IntOp.andi
    (andi (cmpi .sge row (broadcastInDim S64x1024x1 ![] Gen.bcast_S_S64x1024x1 (constantI S_ 32 0#32)))
      (cmpi .sle row (broadcastInDim S64x1024x1 ![0, 1, 2] Gen.bcast_S1x1x1_S64x1024x1_0_1_2
        (broadcastInDim S1x1x1 ![2] Gen.bcast_S1_S1x1x1_2 (constantI S1 32 511#32)))))
    (constantI S_ 1 1#1) Gen.reducesTo_S64x1024x1_S64x1024_d2 Gen.h_S_

/-- The code of each token's number, where the number names one. -/
def refTake (cb : FVec Ideal S512x32 .f32) (idx : IVec S64x1024 32) : FVec Ideal S64x1024x32 .f32 :=
  select (broadcastInDim S64x1024x32 ![0, 1] Gen.bcast_S64x1024_S64x1024x32_0_1 (refInside (refRow idx)))
    (Host.gather gather_S512x32_S64x1024x1_S64x1024x32_2_0_n_n_0_2_132 cb (refRow idx))
    (broadcastInDim S64x1024x32 ![] Gen.bcast_S_S64x1024x32 (constant S_ .f32 0x7FC00000#32))

/-- The codebook of the first pass. -/
def refBook0 (w : FVec Ideal S2x512x32 .f32) : FVec Ideal S512x32 .f32 :=
  shapeCast S512x32 (extractStridedSlice S1x512x32 ![0, 0, 0] w Gen.slices_S2x512x32_S1x512x32_0_0_0) Gen.shapeCasts_S1x512x32_S512x32

/-- The codebook of the second pass. -/
def refBook1 (w : FVec Ideal S2x512x32 .f32) : FVec Ideal S512x32 .f32 :=
  shapeCast S512x32 (extractStridedSlice S1x512x32 ![1, 0, 0] w Gen.slices_S2x512x32_S1x512x32_1_0_0) Gen.shapeCasts_S1x512x32_S512x32

/-- The array of zeros the quantized value starts from. -/
def refZero : FVec Ideal S64x1024x32 .f32 :=
  broadcastInDim S64x1024x32 ![] Gen.bcast_S_S64x1024x32 (constant S_ .f32 0x00000000#32)

/-- The sum of two arrays of tokens. -/
def refAdd (x y : FVec Ideal S64x1024x32 .f32) : FVec Ideal S64x1024x32 .f32 := addf x y

/-- The difference of two arrays of tokens. -/
def refSub (x y : FVec Ideal S64x1024x32 .f32) : FVec Ideal S64x1024x32 .f32 := subf x y

/-- The numbers of the first pass. -/
def refIdx0 (z : FVec Ideal S64x1024x32 .f32) (w : FVec Ideal S2x512x32 .f32) : IVec S64x1024 32 :=
  refIndex (refDist (refSub z refZero) (refBook0 w))

/-- The quantized value after the first pass. -/
def refSum0 (z : FVec Ideal S64x1024x32 .f32) (w : FVec Ideal S2x512x32 .f32) : FVec Ideal S64x1024x32 .f32 :=
  refAdd refZero (refTake (refBook0 w) (refIdx0 z w))

/-- The numbers of the second pass. -/
def refIdx1 (z : FVec Ideal S64x1024x32 .f32) (w : FVec Ideal S2x512x32 .f32) : IVec S64x1024 32 :=
  refIndex (refDist (refSub z (refSum0 z w)) (refBook1 w))

/-- The quantized value after both passes. -/
def refSum1 (z : FVec Ideal S64x1024x32 .f32) (w : FVec Ideal S2x512x32 .f32) : FVec Ideal S64x1024x32 .f32 :=
  refAdd (refSum0 z w) (refTake (refBook1 w) (refIdx1 z w))

/-- The first result: both passes' numbers side by side. -/
def refNumbers (z : FVec Ideal S64x1024x32 .f32) (w : FVec Ideal S2x512x32 .f32) : IVec S64x1024x2 32 :=
  concatenate S64x1024x2 2
    [⟨S64x1024x1, broadcastInDim S64x1024x1 ![0, 1] Gen.bcast_S64x1024_S64x1024x1_0_1 (refIdx0 z w)⟩,
      ⟨S64x1024x1, broadcastInDim S64x1024x1 ![0, 1] Gen.bcast_S64x1024_S64x1024x1_0_1 (refIdx1 z w)⟩]
    Gen.concatenates_S64x1024x1_S64x1024x1_S64x1024x2_d2

/-- The second result: the token plus the quantized value's distance from it. -/
def refValue (z : FVec Ideal S64x1024x32 .f32) (w : FVec Ideal S2x512x32 .f32) : FVec Ideal S64x1024x32 .f32 :=
  refAdd z (refSub (refSum1 z w) z)

/-- The reference's operations in order, with the program read as their sequence. -/
def opsPack : { ops : List (HloOp τ sig (Elt Ideal)) // ∀ d, StableHlo.IsSeq (nD := nD) (main (F := Ideal) d) ops } := by
  apply Subtype.mk; hlo_seq

/-- The `n` operations from the `i`-th on. -/
def part (i n : Nat) : List (HloOp τ sig (Elt Ideal)) := (opsPack.1.drop i).take n

/-- The operations up to the first pass's distances. -/
theorem part_dist0 (V : Valuation τ sig (Elt Ideal)) :
    StableHlo.after (part 0 21) V (Proc.devRef .tc main_v16) = refDist (refSub (V (Proc.devRef .tc main_arg0)) refZero) (refBook0 (V (Proc.devRef .tc main_arg1)))
      ∧ StableHlo.after (part 0 21) V (Proc.devRef .tc main_v0) = refZero
      ∧ StableHlo.after (part 0 21) V (Proc.devRef .tc main_v3) = refBook0 (V (Proc.devRef .tc main_arg1))
      ∧ StableHlo.after (part 0 21) V (Proc.devRef .tc main_arg0) = V (Proc.devRef .tc main_arg0)
      ∧ StableHlo.after (part 0 21) V (Proc.devRef .tc main_arg1) = V (Proc.devRef .tc main_arg1) := by
  simp only [part, opsPack, List.drop_succ_cons, List.drop_zero, List.take_succ_cons, List.take_zero]
  refine ⟨?_, ?_, ?_, ?_, ?_⟩
  all_goals after_reads_simp
  all_goals try simp -implicitDefEqProofs only [StableHlo.TRef.toBuf, StableHlo.TRef.ofBuf, cast_cast, cast_eq]
  all_goals rfl

/-- The first pass's choice of a code. -/
theorem part_index0 (V : Valuation τ sig (Elt Ideal)) :
    StableHlo.after (part 21 5) V (Proc.devRef .tc main_v17) = refIndex (V (Proc.devRef .tc main_v16))
      ∧ StableHlo.after (part 21 5) V (Proc.devRef .tc main_v0) = V (Proc.devRef .tc main_v0)
      ∧ StableHlo.after (part 21 5) V (Proc.devRef .tc main_v3) = V (Proc.devRef .tc main_v3)
      ∧ StableHlo.after (part 21 5) V (Proc.devRef .tc main_arg0) = V (Proc.devRef .tc main_arg0)
      ∧ StableHlo.after (part 21 5) V (Proc.devRef .tc main_arg1) = V (Proc.devRef .tc main_arg1) := by
  simp only [part, opsPack, List.drop_succ_cons, List.drop_zero, List.take_succ_cons, List.take_zero]
  refine ⟨?_, ?_, ?_, ?_, ?_⟩
  all_goals after_reads_simp
  all_goals try simp -implicitDefEqProofs only [StableHlo.TRef.toBuf, StableHlo.TRef.ofBuf, cast_cast, cast_eq]
  all_goals rfl

/-- The first pass's reading of the chosen codes. -/
theorem part_take0 (V : Valuation τ sig (Elt Ideal)) :
    StableHlo.after (part 26 23) V (Proc.devRef .tc main_v18) = refTake (V (Proc.devRef .tc main_v3)) (V (Proc.devRef .tc main_v17))
      ∧ StableHlo.after (part 26 23) V (Proc.devRef .tc main_v0) = V (Proc.devRef .tc main_v0)
      ∧ StableHlo.after (part 26 23) V (Proc.devRef .tc main_v17) = V (Proc.devRef .tc main_v17)
      ∧ StableHlo.after (part 26 23) V (Proc.devRef .tc main_arg0) = V (Proc.devRef .tc main_arg0)
      ∧ StableHlo.after (part 26 23) V (Proc.devRef .tc main_arg1) = V (Proc.devRef .tc main_arg1) := by
  simp only [part, opsPack, List.drop_succ_cons, List.drop_zero, List.take_succ_cons, List.take_zero]
  refine ⟨?_, ?_, ?_, ?_, ?_⟩
  all_goals after_reads_simp
  all_goals try simp -implicitDefEqProofs only [StableHlo.TRef.toBuf, StableHlo.TRef.ofBuf, cast_cast, cast_eq]
  all_goals rfl

/-- The first pass's sum, and the second pass's distances. -/
theorem part_dist1 (V : Valuation τ sig (Elt Ideal)) :
    StableHlo.after (part 49 20) V (Proc.devRef .tc main_v35) = refDist (refSub (V (Proc.devRef .tc main_arg0)) (refAdd (V (Proc.devRef .tc main_v0)) (V (Proc.devRef .tc main_v18)))) (refBook1 (V (Proc.devRef .tc main_arg1)))
      ∧ StableHlo.after (part 49 20) V (Proc.devRef .tc main_v19) = refAdd (V (Proc.devRef .tc main_v0)) (V (Proc.devRef .tc main_v18))
      ∧ StableHlo.after (part 49 20) V (Proc.devRef .tc main_v22) = refBook1 (V (Proc.devRef .tc main_arg1))
      ∧ StableHlo.after (part 49 20) V (Proc.devRef .tc main_v17) = V (Proc.devRef .tc main_v17)
      ∧ StableHlo.after (part 49 20) V (Proc.devRef .tc main_arg0) = V (Proc.devRef .tc main_arg0)
      ∧ StableHlo.after (part 49 20) V (Proc.devRef .tc main_arg1) = V (Proc.devRef .tc main_arg1) := by
  simp only [part, opsPack, List.drop_succ_cons, List.drop_zero, List.take_succ_cons, List.take_zero]
  refine ⟨?_, ?_, ?_, ?_, ?_, ?_⟩
  all_goals after_reads_simp
  all_goals try simp -implicitDefEqProofs only [StableHlo.TRef.toBuf, StableHlo.TRef.ofBuf, cast_cast, cast_eq]
  all_goals rfl

/-- The second pass's choice of a code. -/
theorem part_index1 (V : Valuation τ sig (Elt Ideal)) :
    StableHlo.after (part 69 5) V (Proc.devRef .tc main_v36) = refIndex (V (Proc.devRef .tc main_v35))
      ∧ StableHlo.after (part 69 5) V (Proc.devRef .tc main_v19) = V (Proc.devRef .tc main_v19)
      ∧ StableHlo.after (part 69 5) V (Proc.devRef .tc main_v22) = V (Proc.devRef .tc main_v22)
      ∧ StableHlo.after (part 69 5) V (Proc.devRef .tc main_v17) = V (Proc.devRef .tc main_v17)
      ∧ StableHlo.after (part 69 5) V (Proc.devRef .tc main_arg0) = V (Proc.devRef .tc main_arg0)
      ∧ StableHlo.after (part 69 5) V (Proc.devRef .tc main_arg1) = V (Proc.devRef .tc main_arg1) := by
  simp only [part, opsPack, List.drop_succ_cons, List.drop_zero, List.take_succ_cons, List.take_zero]
  refine ⟨?_, ?_, ?_, ?_, ?_, ?_⟩
  all_goals after_reads_simp
  all_goals try simp -implicitDefEqProofs only [StableHlo.TRef.toBuf, StableHlo.TRef.ofBuf, cast_cast, cast_eq]
  all_goals rfl

/-- The second pass's reading of the chosen codes. -/
theorem part_take1 (V : Valuation τ sig (Elt Ideal)) :
    StableHlo.after (part 74 23) V (Proc.devRef .tc main_v37) = refTake (V (Proc.devRef .tc main_v22)) (V (Proc.devRef .tc main_v36))
      ∧ StableHlo.after (part 74 23) V (Proc.devRef .tc main_v19) = V (Proc.devRef .tc main_v19)
      ∧ StableHlo.after (part 74 23) V (Proc.devRef .tc main_v36) = V (Proc.devRef .tc main_v36)
      ∧ StableHlo.after (part 74 23) V (Proc.devRef .tc main_v17) = V (Proc.devRef .tc main_v17)
      ∧ StableHlo.after (part 74 23) V (Proc.devRef .tc main_arg0) = V (Proc.devRef .tc main_arg0)
      ∧ StableHlo.after (part 74 23) V (Proc.devRef .tc main_arg1) = V (Proc.devRef .tc main_arg1) := by
  simp only [part, opsPack, List.drop_succ_cons, List.drop_zero, List.take_succ_cons, List.take_zero]
  refine ⟨?_, ?_, ?_, ?_, ?_, ?_⟩
  all_goals after_reads_simp
  all_goals try simp -implicitDefEqProofs only [StableHlo.TRef.toBuf, StableHlo.TRef.ofBuf, cast_cast, cast_eq]
  all_goals rfl

/-- The two results. -/
theorem part_results (V : Valuation τ sig (Elt Ideal)) :
    StableHlo.after (part 97 6) V (Proc.devRef .tc main_v41) = concatenate S64x1024x2 2
          [⟨S64x1024x1, broadcastInDim S64x1024x1 ![0, 1] Gen.bcast_S64x1024_S64x1024x1_0_1 (V (Proc.devRef .tc main_v17))⟩,
            ⟨S64x1024x1, broadcastInDim S64x1024x1 ![0, 1] Gen.bcast_S64x1024_S64x1024x1_0_1 (V (Proc.devRef .tc main_v36))⟩]
          Gen.concatenates_S64x1024x1_S64x1024x1_S64x1024x2_d2
      ∧ StableHlo.after (part 97 6) V (Proc.devRef .tc main_v43) = refAdd (V (Proc.devRef .tc main_arg0)) (refSub (refAdd (V (Proc.devRef .tc main_v19)) (V (Proc.devRef .tc main_v37))) (V (Proc.devRef .tc main_arg0)))
      ∧ StableHlo.after (part 97 6) V (Proc.devRef .tc main_arg0) = V (Proc.devRef .tc main_arg0)
      ∧ StableHlo.after (part 97 6) V (Proc.devRef .tc main_arg1) = V (Proc.devRef .tc main_arg1) := by
  simp only [part, opsPack, List.drop_succ_cons, List.drop_zero, List.take_succ_cons, List.take_zero]
  refine ⟨?_, ?_, ?_, ?_⟩
  all_goals after_reads_simp
  all_goals try simp -implicitDefEqProofs only [StableHlo.TRef.toBuf, StableHlo.TRef.ofBuf, cast_cast, cast_eq]
  all_goals rfl

/-- All the operations, part after part. -/
theorem after_parts (V : Valuation τ sig (Elt Ideal)) :
    StableHlo.after opsPack.1 V = StableHlo.after (part 97 6) (StableHlo.after (part 74 23) (StableHlo.after (part 69 5)
      (StableHlo.after (part 49 20) (StableHlo.after (part 26 23) (StableHlo.after (part 21 5) (StableHlo.after (part 0 21) V)))))) := rfl

/-- What the operations leave in the results and the arguments. -/
theorem after_all (V : Valuation τ sig (Elt Ideal)) :
    StableHlo.after opsPack.1 V (Proc.devRef .tc main_v41) = refNumbers (V (Proc.devRef .tc main_arg0)) (V (Proc.devRef .tc main_arg1))
      ∧ StableHlo.after opsPack.1 V (Proc.devRef .tc main_v43) = refValue (V (Proc.devRef .tc main_arg0)) (V (Proc.devRef .tc main_arg1))
      ∧ StableHlo.after opsPack.1 V (Proc.devRef .tc main_arg0) = V (Proc.devRef .tc main_arg0)
      ∧ StableHlo.after opsPack.1 V (Proc.devRef .tc main_arg1) = V (Proc.devRef .tc main_arg1) := by
  rw [after_parts]
  obtain ⟨d0, z0, b0, x0, w0⟩ := part_dist0 V
  generalize StableHlo.after (part 0 21) V = V1 at d0 z0 b0 x0 w0 ⊢
  obtain ⟨i1, z1, b1, x1, w1⟩ := part_index0 V1
  generalize StableHlo.after (part 21 5) V1 = V2 at i1 z1 b1 x1 w1 ⊢
  obtain ⟨t2, z2, i2, x2, w2⟩ := part_take0 V2
  generalize StableHlo.after (part 26 23) V2 = V3 at t2 z2 i2 x2 w2 ⊢
  obtain ⟨d3, s3, b3, i3, x3, w3⟩ := part_dist1 V3
  generalize StableHlo.after (part 49 20) V3 = V4 at d3 s3 b3 i3 x3 w3 ⊢
  obtain ⟨j4, s4, b4, i4, x4, w4⟩ := part_index1 V4
  generalize StableHlo.after (part 69 5) V4 = V5 at j4 s4 b4 i4 x4 w4 ⊢
  obtain ⟨t5, s5, j5, i5, x5, w5⟩ := part_take1 V5
  generalize StableHlo.after (part 74 23) V5 = V6 at t5 s5 j5 i5 x5 w5 ⊢
  obtain ⟨n6, v6, x6, w6⟩ := part_results V6
  have hx : V6 (Proc.devRef .tc main_arg0) = V (Proc.devRef .tc main_arg0) := by rw [x5, x4, x3, x2, x1, x0]
  have hw : V6 (Proc.devRef .tc main_arg1) = V (Proc.devRef .tc main_arg1) := by rw [w5, w4, w3, w2, w1, w0]
  have hi : V2 (Proc.devRef .tc main_v17) = refIdx0 (V (Proc.devRef .tc main_arg0)) (V (Proc.devRef .tc main_arg1)) := by rw [i1, d0]; rfl
  have hs : V4 (Proc.devRef .tc main_v19) = refSum0 (V (Proc.devRef .tc main_arg0)) (V (Proc.devRef .tc main_arg1)) := by
    rw [s3, z2, z1, z0, t2, b1, b0, hi]; rfl
  have hj : V5 (Proc.devRef .tc main_v36) = refIdx1 (V (Proc.devRef .tc main_arg0)) (V (Proc.devRef .tc main_arg1)) := by
    rw [j4, d3, ← s3, hs, x2, x1, x0, w2, w1, w0]; rfl
  refine ⟨?_, ?_, x6.trans hx, w6.trans hw⟩
  · rw [n6, i5, i4, i3, i2, hi, j5, hj]; rfl
  · rw [v6, hx, s5, s4, hs, t5, hj, b4, b3, w2, w1, w0]; rfl

theorem ops_sub : opsPack.1.Forall fun op => op.bufs ⊆ StableHlo.tcRefs τ sig := by
  simp [opsPack]

theorem ops_fresh : ∀ op ∈ opsPack.1, op.fresh = ∅ := by
  intro _ h; unfold opsPack at h; (repeat (cases h with | head => rfl | tail _ h => ?_)); exact nomatch h

/-- The reference runs to its two results, its arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v41)
          = refNumbers (m ((c.tc : Thread nD τ).loc main_arg0)) (m ((c.tc : Thread nD τ).loc main_arg1))
      ∧ r.2.mem ((c.tc : Thread nD τ).loc main_v43)
          = refValue (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine θ_run_mono (StableHlo.run_hlo _ _ opsPack.2 (by decide) (by decide) ops_sub ops_fresh m g) fun r h c => ?_
  obtain ⟨h0, h1, h2, h3⟩ := after_all (StableHlo.launchContents m c)
  exact ⟨(h c main_v41).trans h0, (h c main_v43).trans h1, (h c main_arg0).trans h2, (h c main_arg1).trans h3⟩

/-- The reference's frame: its arguments end unchanged and no semaphore is left raised, there being none. -/
theorem frame (m : (ℓ : Loc nD τ sig) → Buf (Elt Ideal) ℓ) (g : Dev nD → PrngReg) :
    θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  θ_run_mono (run m g) fun r h =>
    ⟨fun c => (h c).2.2, funext fun x => by rcases x with ⟨_, s | s⟩ <;> exact s.elim0⟩

end Cert.Ref

end
-- ==== Proof.Nearest.lean ====
module

public import Idealize.ShloMosaic.PureOps.Ideal
public import Idealize.ShloMosaic.Lib.Pointwise

@[expose] public section

/-! The mathematics of one quantization stage: the code with the least distance, the ways of computing
its number, and the selection of its row by a sum against a row of zeros and a single one. -/

namespace Cert.Nearest

open Idealize.ShloMosaic

/-- `b` is the first place at which `f` is least. -/
def IsFirst (f : Fin 512 → EReal) (b : Fin 512) : Prop := (∀ k, f b ≤ f k) ∧ ∀ k, k < b → f b < f k

theorem exists_isFirst (f : Fin 512 → EReal) : ∃ b, IsFirst f b := by
  obtain ⟨a, -, ha⟩ := Finset.exists_min_image Finset.univ f ⟨0, Finset.mem_univ _⟩
  have ha' : ∀ k, f a ≤ f k := fun k => ha k (Finset.mem_univ k)
  obtain ⟨b, hb, hmin⟩ := Finset.exists_min_image (Finset.univ.filter fun k => f k = f a) id
    ⟨a, Finset.mem_filter.mpr ⟨Finset.mem_univ _, rfl⟩⟩
  have hb' : f b = f a := (Finset.mem_filter.mp hb).2
  refine ⟨b, fun k => hb' ▸ ha' k, fun k hk => lt_of_le_of_ne (hb' ▸ ha' k) fun h => ?_⟩
  exact absurd (hmin k (Finset.mem_filter.mpr ⟨Finset.mem_univ _, by rw [← h, hb']⟩)) (not_le.mpr hk)

/-- The first place at which `f` is least. -/
noncomputable def first (f : Fin 512 → EReal) : Fin 512 := Classical.choose (exists_isFirst f)

theorem first_spec (f : Fin 512 → EReal) : IsFirst f (first f) := Classical.choose_spec (exists_isFirst f)

theorem first_le (f : Fin 512 → EReal) (k : Fin 512) : f (first f) ≤ f k := (first_spec f).1 k

/-- The least value is the value at the first least place. -/
theorem fold_min_eq (f : Fin 512 → EReal) : Finset.fold min (⊤ : EReal) f Finset.univ = f (first f) := by
  apply le_antisymm
  · exact (Finset.fold_min_le _).mpr (Or.inr ⟨first f, Finset.mem_univ _, le_rfl⟩)
  · exact (Finset.le_fold_min _).mpr ⟨le_top, fun k _ => first_le f k⟩

/-- A small number read back as a signed word. -/
theorem toInt_small (k : ℕ) (hk : k ≤ 512) : (BitVec.ofNat 32 k).toInt = (k : ℤ) := by
  have h : (BitVec.ofNat 32 k).toNat = k := by rw [BitVec.toNat_ofNat, Nat.mod_eq_of_lt (by omega)]
  rw [BitVec.toInt_eq_toNat_of_lt (by rw [h]; omega), h]

/-- The signed minimum of words is the minimum of their integers. -/
theorem toInt_minsi (x y : BitVec 32) : (IntOp.minsi x y).toInt = min x.toInt y.toInt := by
  unfold IntOp.minsi
  by_cases h : x.toInt < y.toInt
  · simp [BitVec.slt, h, le_of_lt h]
  · simp [BitVec.slt, h, not_lt.mp h]

/-- The minimum of the place numbers at which the least value is reached, with 512 elsewhere, is the
number of the first least place. -/
theorem fold_minsi_eq (f : Fin 512 → EReal) :
    Finset.fold IntOp.minsi (2147483647#32)
      (fun k => if f k = f (first f) then BitVec.ofNat 32 (k : ℕ) else 512#32) Finset.univ
      = BitVec.ofNat 32 (first f : ℕ) := by
  apply BitVec.toInt_inj.mp
  have hb := (first f).isLt
  rw [← Finset.fold_hom (op' := min) (m := BitVec.toInt) (fun x y => toInt_minsi x y)]; rw [toInt_small (first f : ℕ) (by omega)]
  apply le_antisymm
  · refine (Finset.fold_min_le _).mpr (Or.inr ⟨first f, Finset.mem_univ _, ?_⟩)
    show BitVec.toInt _ ≤ _
    rw [if_pos rfl]; rw [toInt_small (first f : ℕ) (by omega)]
  · refine (Finset.le_fold_min _).mpr ⟨?_, fun k _ => ?_⟩
    · show _ ≤ (2147483647 : ℤ)
      omega
    · show _ ≤ BitVec.toInt _
      by_cases h : f k = f (first f)
      · rw [if_pos h, toInt_small (k : ℕ) (by omega)]
        by_contra hk
        have hlt : k < first f := by rw [Fin.lt_def]; omega
        exact absurd h (ne_of_gt ((first_spec f).2 k hlt))
      · rw [if_neg h]; show _ ≤ (512 : ℤ); omega

/-- A fold that keeps one of its two operands, and keeps `p` against every entry of the list, ends at `p`. -/
theorem foldl_eq_of_wins {α : Type} (f : α → α → α) (p : α) (wins : α → Prop)
    (hl : ∀ q, wins q → f p q = p) (hr : ∀ q, wins q → f q p = p) (hmem : ∀ a b, f a b = a ∨ f a b = b)
    (l : List α) : ∀ a, wins a → (∀ q ∈ l, wins q) → (a = p ∨ p ∈ l) → l.foldl f a = p := by
  induction l with
  | nil => intro a _ _ h; rcases h with h | h; exacts [h, absurd h List.not_mem_nil]
  | cons q l ih =>
    intro a ha hq h
    have hq0 : wins q := hq q List.mem_cons_self
    refine ih (f a q) ?_ (fun x hx => hq x (List.mem_cons_of_mem _ hx)) ?_
    · rcases hmem a q with e | e <;> rw [e] <;> assumption
    · rcases h with h | h
      · left; rw [h]; exact hl q hq0
      · rcases List.mem_cons.mp h with h | h
        · left; rw [← h]; exact hr a ha
        · exact Or.inr h

/-- A sum against a row of zeros and a one at `b` is the entry at `b`. -/
theorem sum_pick (b : Fin 512) (g : Fin 512 → EReal) :
    ∑ k, (if k = b then (1 : EReal) else 0) * g k = g b := by
  rw [Finset.sum_eq_single b]
  · rw [if_pos rfl, one_mul]
  · intro k _ hk; rw [if_neg hk, zero_mul]
  · intro h; exact absurd (Finset.mem_univ b) h

/-- A finite number less itself is zero. -/
theorem sub_self_finite {x : EReal} (h₁ : x ≠ ⊤) (h₂ : x ≠ ⊥) : x - x = 0 := EReal.sub_self h₁ h₂

end Cert.Nearest
-- ==== Proof.Block.lean ====
module

public import proofs.«01_k».proof.Proof.Gen.KernelIdeal.Skeleton
public import proofs.«01_k».proof.Proof.Nearest
public import Idealize.ShloMosaic.PureOps.Ideal
public import Idealize.ShloMosaic.Lib.Claim
public import Idealize.ShloMosaic.Lib.Pointwise

@[expose] public section

noncomputable section

namespace Cert.Blk

open Idealize.ShloMosaic Idealize.SL.Sem Cert.KernelIdeal Cert.KernelIdeal.Gen

/-- The distance of every token of a block to every code. -/
def dists (x : FVec Ideal S4096x32 .f32) (c : FVec Ideal S512x32 .f32) : FVec Ideal S4096x512 .f32 :=
  addf
    (subf
      (broadcastTo S4096x512 (shapeCast S4096x1
        (multiReduction .add [1] S4096 (mulf x x) 0x00000000#32 reduces_S4096x32_S4096 (.inl rfl) rfl) shapeCasts_S4096_S4096x1)
        broadcasts_S4096x1_S4096x512)
      (mulf (broadcast S4096x512 (Scalar.ofBits .f32 0x40000000#32 : Ideal .f32))
        (matmul dot_S4096x32_S512x32_S4096x512_1_1_0_0_n_n none (truncf .bf16 x bitsLt_bf16_f32) (truncf .bf16 c bitsLt_bf16_f32)
          (constant S4096x512 .f32 0x00000000#32))))
    (broadcastTo S4096x512 (shapeCast S1x512
      (multiReduction .add [1] S512 (mulf c c) 0x00000000#32 reduces_S512x32_S512 (.inl rfl) rfl) shapeCasts_S512_S1x512)
      broadcasts_S1x512_S4096x512)

/-- The number of the nearest code of every token of a block. -/
def nearest (v : FVec Ideal S4096x512 .f32) : IVec S4096 32 :=
  multiReductionI .minsi [1] S4096
    (select
      (cmpf .oeq v (broadcastTo S4096x512 (shapeCast S4096x1
        (multiReduction .minimumf [1] S4096 v 0x7F800000#32 reduces_S4096x512_S4096 (.inl rfl) rfl) shapeCasts_S4096_S4096x1)
        broadcasts_S4096x1_S4096x512))
      (iota .tc S4096x512 32 [1] iota_S4096x512_d1_w32)
      (broadcast S4096x512 512#32))
    2147483647#32 reduces_S4096x512_S4096 rfl

/-- Whether each of the codes is the one of a token's number: a row of zeros and a one. -/
def oneHot (idx : IVec S4096 32) : FVec Ideal S4096x512 .bf16 :=
  truncf .bf16
    (sitofp .f32 (extui 32
      (cmpi .eq (iota .tc S4096x512 32 [1] iota_S4096x512_d1_w32)
        (broadcastTo S4096x512 (shapeCast S4096x1 idx shapeCasts_S4096_S4096x1) broadcasts_S4096x1_S4096x512)) natLt_1_32))
    bitsLt_bf16_f32

/-- What a codebook rounded to half the width leaves. -/
def rest (c : FVec Ideal S512x32 .f32) : FVec Ideal S512x32 .f32 :=
  subf c (extf .f32 (truncf .bf16 c bitsLt_bf16_f32) bitsLt_bf16_f32)

/-- The codebook's three parts side by side. -/
def parts (c : FVec Ideal S512x32 .f32) : FVec Ideal S512x96 .bf16 :=
  concatenate S512x96 1
    [⟨S512x32, truncf .bf16 c bitsLt_bf16_f32⟩, ⟨S512x32, truncf .bf16 (rest c) bitsLt_bf16_f32⟩,
      ⟨S512x32, truncf .bf16 (rest (rest c)) bitsLt_bf16_f32⟩]
    concatenates_S512x32_S512x32_S512x32_S512x96_d1

/-- The three parts of the chosen codes side by side. -/
def chosen (idx : IVec S4096 32) (c : FVec Ideal S512x32 .f32) : FVec Ideal S4096x96 .f32 :=
  matmul dot_S4096x512_S512x96_S4096x96_1_0_0_1_n_n none (oneHot idx) (parts c) (constant S4096x96 .f32 0x00000000#32)

/-- The chosen codes: the sum of their three parts. -/
def picked (idx : IVec S4096 32) (c : FVec Ideal S512x32 .f32) : FVec Ideal S4096x32 .f32 :=
  addf
    (addf (extractStridedSlice S4096x32 ![0, 0] (chosen idx c) slices_S4096x96_o0_0_S4096x32)
      (extractStridedSlice S4096x32 ![0, 32] (chosen idx c) slices_S4096x96_o0_32_S4096x32))
    (extractStridedSlice S4096x32 ![0, 64] (chosen idx c) slices_S4096x96_o0_64_S4096x32)

theorem pay_idx0 (v0 : Vec Ideal S4096x32 .f32) (v2 : Vec Ideal S1x512x32 .f32) :
    k0_pay6 v0 v2 = nearest (dists (k0_pay4 v0) (k0_pay5 v2)) := rfl

theorem pay_sum0 (v0 : Vec Ideal S4096x32 .f32) (v2 : Vec Ideal S1x512x32 .f32) :
    k0_pay10 (k0_pay8 v0 v2) (k0_pay9 v0 v2) = picked (k0_pay6 v0 v2) (k0_pay5 v2) := rfl

theorem pay_idx1 (v1 v44 v45 : FVec Ideal S4096x32 .f32) (v48 : Vec Ideal S1x512x32 .f32) :
    k0_pay12 v1 v44 v45 v48 = nearest (dists (subf v1 (k0_pay10 v44 v45)) (k0_pay11 v48)) := rfl

theorem pay_sum1 (v1 v44 v45 : FVec Ideal S4096x32 .f32) (v48 : Vec Ideal S1x512x32 .f32) :
    k0_pay13 v1 v44 v45 v48 = addf (k0_pay10 v44 v45) (picked (k0_pay12 v1 v44 v45 v48) (k0_pay11 v48)) := rfl

/-- The distance of one token to one code. -/
def dist (z : Fin 32 → EReal) (c : Fin 512 → Fin 32 → EReal) (k : Fin 512) : EReal :=
  (∑ d, z d * z d) - Ideal.ofBits FTy.f32 1073741824#32 * (∑ d, z d * c k d) + ∑ d, c k d * c k d

theorem dists_apply (x : FVec Ideal S4096x32 .f32) (c : FVec Ideal S512x32 .f32) (r : Fin 4096) (k : Fin 512) :
    dists x c (ix2 r k) = dist (fun d => x (ix2 r d)) (fun k d => c (ix2 k d)) k := by
  unfold dists
  pointwise
  rfl

/-- The bits of the initial value of a minimum are those of infinity. -/
theorem inf_bits : Ideal.ofBits FTy.f32 2139095040#32 = (⊤ : EReal) := by
  simp [Ideal.ofBits, Ideal.ieee]

theorem nearest_apply (v : FVec Ideal S4096x512 .f32) (r : Fin 4096) :
    nearest v (ix1 r) = BitVec.ofNat 32 (Nearest.first fun k => v (ix2 r k) : ℕ) := by
  unfold nearest
  pointwise
  rw [inf_bits, Nearest.fold_min_eq (fun k => v (ix2 r k))]
  exact Nearest.fold_minsi_eq fun k => v (ix2 r k)

theorem oneHot_apply (idx : IVec S4096 32) (r : Fin 4096) (k b : Fin 512) (h : idx (ix1 r) = BitVec.ofNat 32 (b : ℕ)) :
    oneHot idx (ix2 r k) = if k = b then (1 : EReal) else 0 := by
  unfold oneHot
  pointwise
  rw [h]
  have hk := k.isLt
  have hb := b.isLt
  by_cases e : k = b
  · subst e
    simp [IntOp.cmpi, FloatOps.sitofp]
  · have hne : BitVec.ofNat 32 (k : ℕ) ≠ BitVec.ofNat 32 (b : ℕ) := by
      intro he
      have := congrArg BitVec.toNat he
      rw [BitVec.toNat_ofNat, BitVec.toNat_ofNat] at this
      exact e (Fin.ext (by omega))
    have hbeq : (BitVec.ofNat 32 (k : ℕ) == BitVec.ofNat 32 (b : ℕ)) = false := beq_eq_false_iff_ne.mpr hne
    simp [IntOp.cmpi, FloatOps.sitofp, hbeq, e]

theorem rest_apply (c : FVec Ideal S512x32 .f32) (k : Fin 512) (d : Fin 32) :
    rest c (ix2 k d) = c (ix2 k d) - c (ix2 k d) := by
  unfold rest
  pointwise

theorem parts_apply (c : FVec Ideal S512x32 .f32) (k : Fin 512) (d : Fin 96) :
    parts c (ix2 k d)
      = if h : (d : ℕ) < 32 then c (ix2 k ⟨d, h⟩)
        else if h : (d : ℕ) - 32 < 32 then rest c (ix2 k ⟨d - 32, h⟩) else rest (rest c) (ix2 k ⟨d - 32 - 32, by omega⟩) := by
  unfold parts
  pointwise

theorem chosen_apply (idx : IVec S4096 32) (c : FVec Ideal S512x32 .f32) (r : Fin 4096) (d : Fin 96) :
    chosen idx c (ix2 r d) = ∑ k, oneHot idx (ix2 r k) * parts c (ix2 k d) := by
  unfold chosen
  pointwise

/-- A chosen code in full, where the codebook is finite. -/
theorem picked_apply (idx : IVec S4096 32) (c : FVec Ideal S512x32 .f32) (hc : ∀ k d, c (ix2 k d) ≠ ⊤ ∧ c (ix2 k d) ≠ ⊥)
    (r : Fin 4096) (d : Fin 32) (b : Fin 512) (h : idx (ix1 r) = BitVec.ofNat 32 (b : ℕ)) :
    picked idx c (ix2 r d) = c (ix2 b d) := by
  have hz : ∀ k d, rest c (ix2 k d) = 0 := fun k d => by
    rw [rest_apply]; exact Nearest.sub_self_finite (hc k d).1 (hc k d).2
  have hzz : ∀ k d, rest (rest c) (ix2 k d) = 0 := fun k d => by
    rw [rest_apply, hz]; exact Nearest.sub_self_finite EReal.zero_ne_top EReal.zero_ne_bot
  have hch : ∀ e, chosen idx c (ix2 r e) = parts c (ix2 b e) := fun e => by
    rw [chosen_apply]
    simp only [oneHot_apply idx r _ b h]
    exact Nearest.sum_pick b fun k => parts c (ix2 k e)
  have hd := d.isLt
  unfold picked
  pointwise
  rw [hch, hch, hch, parts_apply, parts_apply, parts_apply, dif_pos hd, dif_neg (by simp), dif_pos (by simp),
    dif_neg (by show ¬(64 + (d : ℕ) < 32); omega), dif_neg (by show ¬(64 + (d : ℕ) - 32 < 32); omega), hz, hzz, add_zero, add_zero]

/-- The number of a token's first code, among the codes `w 0`. -/
def num0 (z : Fin 32 → EReal) (w : Fin 2 → Fin 512 → Fin 32 → EReal) : Fin 512 := Nearest.first (dist z (w 0))

/-- A token's first code. -/
def code0 (z : Fin 32 → EReal) (w : Fin 2 → Fin 512 → Fin 32 → EReal) (d : Fin 32) : EReal := w 0 (num0 z w) d

/-- The number of a token's second code, the one nearest to what the first leaves. -/
def num1 (z : Fin 32 → EReal) (w : Fin 2 → Fin 512 → Fin 32 → EReal) : Fin 512 :=
  Nearest.first (dist (fun d => z d - code0 z w d) (w 1))

/-- A token's quantized value, as the token plus its distance from it. -/
def value (z : Fin 32 → EReal) (w : Fin 2 → Fin 512 → Fin 32 → EReal) (d : Fin 32) : EReal :=
  z d + (code0 z w d + w 1 (num1 z w) d - z d)

theorem pay_numbers0 (v : IVec S4096 32) (i j : Fin 1) (r : Fin 4096) : k0_pay1 v (ix3 i j r) = v (ix1 r) := by
  unfold k0_pay1
  pointwise

theorem pay_numbers1 (v : IVec S4096 32) (i j : Fin 1) (r : Fin 4096) : k0_pay2 v (ix3 i j r) = v (ix1 r) := by
  unfold k0_pay2
  pointwise

theorem pay_token (v0 : Vec Ideal S4096x32 .f32) (r : Fin 4096) (d : Fin 32) : k0_pay4 v0 (ix2 r d) = v0 (ix2 r d) := by
  unfold k0_pay4
  pointwise

theorem pay_book0 (v2 : Vec Ideal S1x512x32 .f32) (k : Fin 512) (d : Fin 32) : k0_pay5 v2 (ix2 k d) = v2 (ix3 0 k d) := by
  unfold k0_pay5
  pointwise

theorem pay_book1 (v2 : Vec Ideal S1x512x32 .f32) (k : Fin 512) (d : Fin 32) : k0_pay11 v2 (ix2 k d) = v2 (ix3 0 k d) := by
  unfold k0_pay11
  pointwise

section
variable (v0 : Vec Ideal S4096x32 .f32) (v2 v48 : Vec Ideal S1x512x32 .f32) (w : Fin 2 → Fin 512 → Fin 32 → EReal)
  (h0 : ∀ k d, v2 (ix3 0 k d) = w 0 k d) (h1 : ∀ k d, v48 (ix3 0 k d) = w 1 k d) (hw : ∀ s k d, w s k d ≠ ⊤ ∧ w s k d ≠ ⊥)
  (r : Fin 4096)

include h0

theorem block_num0 : k0_pay6 v0 v2 (ix1 r) = BitVec.ofNat 32 (num0 (fun d => v0 (ix2 r d)) w : ℕ) := by
  rw [pay_idx0, nearest_apply]
  simp only [dists_apply, pay_token, pay_book0, h0]
  rfl

include hw

theorem block_code0 (d : Fin 32) :
    k0_pay10 (k0_pay8 v0 v2) (k0_pay9 v0 v2) (ix2 r d) = code0 (fun d => v0 (ix2 r d)) w d := by
  rw [pay_sum0, picked_apply _ _ (fun k d => by rw [pay_book0, h0]; exact hw 0 k d) r d _ (block_num0 v0 v2 w h0 r),
    pay_book0, h0]
  rfl

include h1

theorem block_num1 :
    k0_pay12 (k0_pay4 v0) (k0_pay8 v0 v2) (k0_pay9 v0 v2) v48 (ix1 r) = BitVec.ofNat 32 (num1 (fun d => v0 (ix2 r d)) w : ℕ) := by
  rw [pay_idx1, nearest_apply]
  have hr : ∀ d, subf (k0_pay4 v0) (k0_pay10 (k0_pay8 v0 v2) (k0_pay9 v0 v2)) (ix2 r d)
      = (v0 (ix2 r d) - code0 (fun d => v0 (ix2 r d)) w d : EReal) := fun d => by
    rw [← block_code0 v0 v2 w h0 hw r d, ← pay_token v0 r d]; rfl
  simp only [dists_apply, pay_book1, h1, hr]
  rfl

theorem block_value (d : Fin 32) :
    k0_pay3 (k0_pay4 v0) (k0_pay13 (k0_pay4 v0) (k0_pay8 v0 v2) (k0_pay9 v0 v2) v48) (ix2 r d)
      = value (fun d => v0 (ix2 r d)) w d := by
  have hs : k0_pay13 (k0_pay4 v0) (k0_pay8 v0 v2) (k0_pay9 v0 v2) v48 (ix2 r d)
      = (code0 (fun d => v0 (ix2 r d)) w d + w 1 (num1 (fun d => v0 (ix2 r d)) w) d : EReal) := by
    rw [pay_sum1, ← block_code0 v0 v2 w h0 hw r d, ← h1, ← pay_book1 v48,
      ← picked_apply _ (k0_pay11 v48) (fun k d => by rw [pay_book1, h1]; exact hw 1 k d) r d _ (block_num1 v0 v2 v48 w h0 h1 hw r)]
    rfl
  show (k0_pay4 v0 (ix2 r d) + (k0_pay13 (k0_pay4 v0) (k0_pay8 v0 v2) (k0_pay9 v0 v2) v48 (ix2 r d) - k0_pay4 v0 (ix2 r d)) : EReal) = _
  rw [hs, pay_token]
  rfl

end

end Cert.Blk

end
-- ==== Proof.Reads.lean ====
/- Two operations of the reference read at one place, for any sizes: the search for the least of a row and
   the reading of a table's rows. -/
module

public import proofs.«01_k».proof.Proof.Nearest
public import Idealize.ShloMosaic.PureOps.Ideal
public import Idealize.ShloMosaic.Lib.Pointwise

@[expose] public section

noncomputable section

namespace Cert.Reads

open Idealize.ShloMosaic

/-- A search whose step keeps one of its two operands, and keeps `(x i, y i)` against the initial pair and
every pair of the row, ends at that pair. -/
theorem argReduce_eq_of_wins {s t u : Shape} {axes : List (Fin s.rank)} {φ : FTy}
    (f : Ideal φ × BitVec 32 → Ideal φ × BitVec 32 → Ideal φ × BitVec 32) (x : FVec Ideal s φ) (y : s.Idx → BitVec 32)
    (ix : u.Idx → Ideal φ) (iy : u.Idx → BitVec 32) (h : s.ReducesTo axes t) (hu : 0 < u.numel) (j : t.Idx)
    (i : s.Idx) (hi : h.drop i = j) (wins : Ideal φ × BitVec 32 → Prop)
    (hl : ∀ q, wins q → f (x i, y i) q = (x i, y i)) (hr : ∀ q, wins q → f q (x i, y i) = (x i, y i))
    (hmem : ∀ a b, f a b = a ∨ f a b = b)
    (h0 : wins (ix (Shape.Idx.first hu), iy (Shape.Idx.first hu))) (hall : ∀ k, h.drop k = j → wins (x k, y k)) :
    Host.argReduce f x y ix iy h hu j = (x i, y i) := by
  rw [Ideal.argReduce_eq_reduce2, Host.reduce2_eq_foldl_fiber]
  refine Nearest.foldl_eq_of_wins f (x i, y i) wins hl hr hmem _ _ h0 (fun q hq => ?_) (Or.inr ?_)
  · obtain ⟨n, hn, rfl⟩ := List.mem_map.mp hq
    exact hall _ (of_decide_eq_true (List.mem_filter.mp hn).2)
  · refine List.mem_map.mpr ⟨s.rowMajor i, List.mem_filter.mpr ⟨List.mem_finRange _, ?_⟩, ?_⟩
    · rw [Equiv.symm_apply_apply]; exact decide_eq_true hi
    · rw [Equiv.symm_apply_apply]

/-- The dimension numbers of reading whole rows of a table by an array of row numbers. -/
abbrev rowDims (N D A B : ℕ)
    (wf : GatherDims.WF ⟨2, ![N, D]⟩ ⟨3, ![A, B, 1]⟩ ⟨3, ![A, B, D]⟩ [2] [0] [] [0] [] 2 ![1, D]) :
    GatherDims ⟨2, ![N, D]⟩ ⟨3, ![A, B, 1]⟩ ⟨3, ![A, B, D]⟩ where
  offsetDims := [2]
  collapsedSliceDims := [0]
  operandBatchingDims := []
  startIndicesBatchingDims := []
  startIndexMap := [0]
  indexVectorDim := 2
  sliceSizes := ![1, D]
  wf := wf

/-- Reading rows of a table: where the row number is `k`, the row read is the `k`-th. -/
theorem gather_rows {α : Type} {N D A B : ℕ}
    (wf : GatherDims.WF ⟨2, ![N, D]⟩ ⟨3, ![A, B, 1]⟩ ⟨3, ![A, B, D]⟩ [2] [0] [] [0] [] 2 ![1, D])
    (x : (⟨2, ![N, D]⟩ : Shape).Idx → α) (idx : IVec ⟨3, ![A, B, 1]⟩ 32) (a : Fin A) (b : Fin B) (d : Fin D) (k : Fin N)
    (hk : (idx (ix3 a b 0)).toInt = (k : ℤ)) :
    Host.gather (rowDims N D A B wf) x idx (ix3 a b d) = x (ix2 k d) := by
  unfold Host.gather
  refine congrArg x (funext fun e => Fin.ext ?_)
  show (rowDims N D A B wf).start (ix3 a b d) idx e + (rowDims N D A B wf).batchCoord (ix3 a b d) e
      + (rowDims N D A B wf).offCoord (ix3 a b d) e = _
  rw [GatherDims.batchCoord_eq_zero _ _ _ List.not_mem_nil, Nat.add_zero]
  have h01 : e = 0 ∨ e = 1 := by
    match e with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)),
      Nat.add_zero]
    unfold GatherDims.start
    rw [dif_pos (show (0 : Fin 2) ∈ (rowDims N D A B wf).startIndexMap from List.mem_singleton.mpr rfl)]
    have hsi : (rowDims N D A B wf).siIdx (ix3 a b d) ⟨List.idxOf (0 : Fin 2) (rowDims N D A B wf).startIndexMap,
        List.idxOf_lt_length_iff.2 (List.mem_singleton.mpr rfl)⟩ = ix3 a b 0 := by
      funext c; refine Fin.ext ?_
      match c with
      | ⟨0, _⟩ => rfl
      | ⟨1, _⟩ => rfl
      | ⟨2, _⟩ => rfl
    have hlt := k.isLt
    show min (idx ((rowDims N D A B wf).siIdx (ix3 a b d) ⟨List.idxOf (0 : Fin 2) (rowDims N D A B wf).startIndexMap,
        List.idxOf_lt_length_iff.2 (List.mem_singleton.mpr rfl)⟩)).toInt.toNat (N - 1) = k.val
    rw [hsi, hk]
    omega
  · unfold GatherDims.start GatherDims.offCoord
    rw [dif_neg (fun h => absurd (congrArg Fin.val (List.mem_singleton.mp h)) Nat.one_ne_zero),
      dif_pos ((GatherDims.mem_sKept _ _).mpr
        ⟨fun h => absurd (congrArg Fin.val (List.mem_singleton.mp h)) Nat.one_ne_zero, List.not_mem_nil⟩), Nat.zero_add]
    rfl

/-- The places of a row of a three-axis array. -/
theorem drop_last {A B C : ℕ} (h : (⟨3, ![A, B, C]⟩ : Shape).ReducesTo [2] ⟨2, ![A, B]⟩) (a a' : Fin A) (b b' : Fin B) (c : Fin C) :
    h.drop (ix3 a' b' c) = ix2 a b ↔ a' = a ∧ b' = b := by
  constructor
  · intro e
    exact ⟨Fin.ext (congrArg (fun i => (i 0 : ℕ)) e), Fin.ext (congrArg (fun i => (i 1 : ℕ)) e)⟩
  · rintro ⟨rfl, rfl⟩
    funext e
    match e with
    | ⟨0, _⟩ => rfl
    | ⟨1, _⟩ => rfl

end Cert.Reads

end
-- ==== Proof.RefValue.lean ====
/- The reference's four steps at one token. -/
module

public import proofs.«01_k».proof.Proof.Ref
public import proofs.«01_k».proof.Proof.Block
public import proofs.«01_k».proof.Proof.Reads
public import Idealize.ShloMosaic.PureOps.Ideal
public import Idealize.ShloMosaic.Lib.Claim
public import Idealize.ShloMosaic.Lib.Pointwise

@[expose] public section

noncomputable section

namespace Cert.Ref

open Idealize.ShloMosaic Idealize.SL.Sem Cert.ReferenceIdeal

theorem refDist_apply (x : FVec Ideal S64x1024x32 .f32) (c : FVec Ideal S512x32 .f32) (b : Fin 64) (n : Fin 1024) (k : Fin 512) :
    refDist x c (ix3 b n k) = Blk.dist (fun d => x (ix3 b n d)) (fun k d => c (ix2 k d)) k := by
  unfold refDist
  pointwise
  rfl

/-- One step of the search keeps the pair of the lesser value, or of the lesser number where the values are equal. -/
theorem reducer_eq (a b : Ideal .f32 × BitVec 32) :
    reducer_argmin_f32_i32 a b
      = if (a.1 : EReal) < b.1 ∨ ((a.1 : EReal) = b.1 ∧ a.2.toInt < b.2.toInt) then a else b := by
  obtain ⟨a1, a2⟩ := a
  obtain ⟨b1, b2⟩ := b
  unfold reducer_argmin_f32_i32
  by_cases h1 : (a1 : EReal) < b1
  · have hor : ∀ w : BitVec 1, 1#1 ||| w = 1#1 := by decide
    simp [FloatOps.cmpf, Ideal.cmp, IntOp.ori, IntOp.andi, IntOp.cmpi, Scalar.select, h1, hor]
  · by_cases h2 : (a1 : EReal) = b1
    · subst h2
      by_cases h3 : a2.toInt < b2.toInt
      · simp [FloatOps.cmpf, Ideal.cmp, IntOp.ori, IntOp.andi, IntOp.cmpi, Scalar.select, BitVec.slt, h3]
      · simp [FloatOps.cmpf, Ideal.cmp, IntOp.ori, IntOp.andi, IntOp.cmpi, Scalar.select, BitVec.slt, h3]
    · simp [FloatOps.cmpf, Ideal.cmp, IntOp.ori, IntOp.andi, IntOp.cmpi, Scalar.select, h1, h2]

/-- The search along the last axis finds the first place of the least value. -/
theorem search_row {A B : ℕ} {u : Shape} (x : FVec Ideal ⟨3, ![A, B, 512]⟩ .f32) (y : IVec ⟨3, ![A, B, 512]⟩ 32)
    (hy : ∀ a b (k : Fin 512), y (ix3 a b k) = BitVec.ofNat 32 (k : ℕ)) (ix : FVec Ideal u .f32) (iy : IVec u 32)
    (h : (⟨3, ![A, B, 512]⟩ : Shape).ReducesTo [2] ⟨2, ![A, B]⟩) (hu : 0 < u.numel)
    (hix : (ix (Shape.Idx.first hu) : EReal) = ⊤) (hiy : iy (Shape.Idx.first hu) = 0#32) (a : Fin A) (b : Fin B) :
    (Host.argReduce reducer_argmin_f32_i32 x y ix iy h hu (ix2 a b)).2
      = BitVec.ofNat 32 (Nearest.first fun k => x (ix3 a b k) : ℕ) := by
  have hspec := Nearest.first_spec fun k => x (ix3 a b k)
  generalize Nearest.first (fun k => x (ix3 a b k)) = p at hspec ⊢
  have hp := p.isLt
  have hle : ∀ k, (x (ix3 a b p) : EReal) ≤ x (ix3 a b k) := hspec.1
  have hlt : ∀ k, k < p → (x (ix3 a b p) : EReal) < x (ix3 a b k) := hspec.2
  rw [Reads.argReduce_eq_of_wins _ x y ix iy h hu (ix2 a b) (ix3 a b p) ((Reads.drop_last h a a b b p).mpr ⟨rfl, rfl⟩)
    (fun q => (x (ix3 a b p) : EReal) < q.1 ∨ ((x (ix3 a b p) : EReal) = q.1 ∧ (p : ℤ) < q.2.toInt)
      ∨ (x (ix3 a b p), BitVec.ofNat 32 (p : ℕ)) = q)]
  · exact hy a b p
  · intro q hq
    rw [reducer_eq, hy]
    rcases hq with hq | ⟨hq, hi⟩ | hq
    · exact if_pos (Or.inl hq)
    · refine if_pos (Or.inr ⟨hq, ?_⟩)
      show (BitVec.ofNat 32 (p : ℕ)).toInt < _
      rw [Nearest.toInt_small (p : ℕ) (by omega)]; exact hi
    · rw [← hq, ite_self]
  · intro q hq
    rw [reducer_eq, hy]
    rcases hq with hq | ⟨hq, hi⟩ | hq
    · exact if_neg fun e => by
        rcases e with e | e
        · exact absurd e (not_lt.mpr (le_of_lt hq))
        · exact absurd e.1.symm (ne_of_lt hq)
    · refine if_neg fun e => ?_
      rcases e with e | e
      · exact absurd hq.symm (ne_of_lt e)
      · have e2 : q.2.toInt < (BitVec.ofNat 32 (p : ℕ)).toInt := e.2
        rw [Nearest.toInt_small (p : ℕ) (by omega)] at e2; omega
    · rw [← hq, ite_self]
  · intro q q'
    rw [reducer_eq]
    split
    · exact Or.inl rfl
    · exact Or.inr rfl
  · show (x (ix3 a b p) : EReal) < ix (Shape.Idx.first hu) ∨ ((x (ix3 a b p) : EReal) = ix (Shape.Idx.first hu) ∧ _)
        ∨ _ = (ix (Shape.Idx.first hu), iy (Shape.Idx.first hu))
    rw [hiy]
    rcases lt_or_eq_of_le (le_top (a := (x (ix3 a b p) : EReal))) with e | e
    · exact Or.inl (lt_of_lt_of_eq e hix.symm)
    · have hp0 : p = ⟨0, by omega⟩ := by
        by_contra hne
        have h0 : (⟨0, by omega⟩ : Fin 512) < p := by
          rw [Fin.lt_def]
          exact Nat.pos_of_ne_zero fun e => hne (Fin.ext e)
        exact absurd (lt_of_eq_of_lt e.symm (hlt _ h0)) not_top_lt
      exact Or.inr (Or.inr (Prod.ext (e.trans hix.symm) (by rw [hp0])))
  · intro i hi
    obtain ⟨a', b', k, rfl⟩ : ∃ (a' : Fin A) (b' : Fin B) (k : Fin 512), i = ix3 a' b' k :=
      ⟨i 0, i 1, i 2, by
        funext e
        match e with
        | ⟨0, _⟩ => rfl
        | ⟨1, _⟩ => rfl
        | ⟨2, _⟩ => rfl⟩
    obtain ⟨rfl, rfl⟩ := (Reads.drop_last h a a' b b' k).mp hi
    have hk := k.isLt
    rw [hy]
    rcases lt_trichotomy k p with e | e | e
    · exact Or.inl (hlt k e)
    · rw [e]; exact Or.inr (Or.inr rfl)
    · rcases lt_or_eq_of_le (hle k) with e' | e'
      · exact Or.inl e'
      · refine Or.inr (Or.inl ⟨e', ?_⟩)
        show (p : ℤ) < (BitVec.ofNat 32 (k : ℕ)).toInt
        rw [Nearest.toInt_small (k : ℕ) (by omega)]
        rw [Fin.lt_def] at e
        omega

/-- The choice of a code is the search along a token's distances. -/
theorem refIndex_eq (x : FVec Ideal S64x1024x512 .f32) : refIndex x = fun j =>
    (Host.argReduce reducer_argmin_f32_i32 x (iotaInDim S64x1024x512 32 2) (constant S_ .f32 0x7F800000#32)
      (constantI S_ 32 0#32) Gen.reducesTo_S64x1024x512_S64x1024_d2 Gen.h_S_ j).2 := by
  delta refIndex; rfl

theorem numbers_row (b : Fin 64) (n : Fin 1024) (k : Fin 512) :
    iotaInDim S64x1024x512 32 2 (ix3 b n k) = BitVec.ofNat 32 (k : ℕ) := by
  pointwise

theorem refIndex_apply (x : FVec Ideal S64x1024x512 .f32) (b : Fin 64) (n : Fin 1024) :
    refIndex x (ix2 b n) = BitVec.ofNat 32 (Nearest.first fun k => x (ix3 b n k) : ℕ) := by
  rw [refIndex_eq]
  exact search_row x (iotaInDim S64x1024x512 32 2) numbers_row (constant S_ .f32 0x7F800000#32) (constantI S_ 32 0#32)
    Gen.reducesTo_S64x1024x512_S64x1024_d2 Gen.h_S_ Blk.inf_bits rfl b n

/-- A row number that names a code is read as it is. -/
theorem refRow_apply (idx : IVec S64x1024 32) (b : Fin 64) (n : Fin 1024) (i : Fin 1) (k : Fin 512)
    (h : idx (ix2 b n) = BitVec.ofNat 32 (k : ℕ)) : refRow idx (ix3 b n i) = BitVec.ofNat 32 (k : ℕ) := by
  unfold refRow
  pointwise
  rw [h]
  have hk := k.isLt
  have hs : ¬ (BitVec.ofNat 32 (k : ℕ)).toInt < 0 := by rw [Nearest.toInt_small (k : ℕ) (by omega)]; omega
  simp [Scalar.select, IntOp.cmpi, BitVec.slt, hs]

theorem refInside_apply (idx : IVec S64x1024x1 32) (b : Fin 64) (n : Fin 1024) (k : Fin 512)
    (h : ∀ i, idx (ix3 b n i) = BitVec.ofNat 32 (k : ℕ)) : refInside idx (ix2 b n) = 1#1 := by
  unfold refInside
  pointwise
  simp only [h]
  have hk := k.isLt
  have h0 : (0 : ℤ) ≤ (BitVec.ofNat 32 (k : ℕ)).toInt := by rw [Nearest.toInt_small (k : ℕ) (by omega)]; omega
  have h1 : (BitVec.ofNat 32 (k : ℕ)).toInt ≤ 511 := by rw [Nearest.toInt_small (k : ℕ) (by omega)]; omega
  simp [IntOp.cmpi, IntOp.andi, BitVec.sle, h0, h1]

/-- Where a token's number names a code, what is taken is that code. -/
theorem refTake_apply (c : FVec Ideal S512x32 .f32) (idx : IVec S64x1024 32) (b : Fin 64) (n : Fin 1024) (d : Fin 32)
    (k : Fin 512) (h : idx (ix2 b n) = BitVec.ofNat 32 (k : ℕ)) : refTake c idx (ix3 b n d) = c (ix2 k d) := by
  have hk := k.isLt
  unfold refTake
  pointwise
  rw [refInside_apply _ b n k fun i => refRow_apply idx b n i k h]
  exact Reads.gather_rows _ c (refRow idx) b n d k (by
    rw [refRow_apply idx b n 0 k h]; exact Nearest.toInt_small (k : ℕ) (by omega))

theorem refBook0_apply (w : FVec Ideal S2x512x32 .f32) (k : Fin 512) (d : Fin 32) :
    refBook0 w (ix2 k d) = w (ix3 0 k d) := by
  unfold refBook0
  pointwise

theorem refBook1_apply (w : FVec Ideal S2x512x32 .f32) (k : Fin 512) (d : Fin 32) :
    refBook1 w (ix2 k d) = w (ix3 1 k d) := by
  unfold refBook1
  pointwise

theorem refZero_apply (b : Fin 64) (n : Fin 1024) (d : Fin 32) : refZero (ix3 b n d) = (0 : EReal) := by
  unfold refZero
  pointwise

/-- Two columns of numbers side by side. -/
theorem pair_apply (p q : IVec S64x1024 32) (b : Fin 64) (n : Fin 1024) (s : Fin 2) :
    concatenate S64x1024x2 2
      [⟨S64x1024x1, broadcastInDim S64x1024x1 ![0, 1] Gen.bcast_S64x1024_S64x1024x1_0_1 p⟩,
        ⟨S64x1024x1, broadcastInDim S64x1024x1 ![0, 1] Gen.bcast_S64x1024_S64x1024x1_0_1 q⟩]
      Gen.concatenates_S64x1024x1_S64x1024x1_S64x1024x2_d2 (ix3 b n s)
      = if (s : ℕ) < 1 then p (ix2 b n) else q (ix2 b n) := by
  pointwise
  split <;> rfl

end Cert.Ref

end
-- ==== Proof.Run.lean ====
/- The kernel's run: what the launch leaves in its three arrays and what the program makes of them. -/
module

public import proofs.«01_k».proof.Defs
public import proofs.«01_k».proof.Proof.Gen.KernelIdeal.Frame
public import proofs.«01_k».proof.Proof.Block
public import Idealize.ShloMosaic.PureOps.Ideal
public import Idealize.ShloMosaic.Lib.Pipeline.ValueKit
public import Idealize.ShloMosaic.Lib.Claim
public import Idealize.ShloMosaic.Lib.Pointwise
public import Idealize.ShloMosaic.Lib.StableHlo.ReadAt

@[expose] public section

noncomputable section

namespace Cert.Run

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The components of token `p` among all the tokens. -/
def tokenOf (z : FVec Ideal S64x1024x32 .f32) (p : Fin 65536) (d : Fin 32) : EReal :=
  z (ix3 (⟨p / 1024, by omega⟩ : Fin 64) (⟨p % 1024, by omega⟩ : Fin 1024) d)

/-- The codebooks entry by entry. -/
def booksOf (w : FVec Ideal S2x512x32 .f32) (s : Fin 2) (k : Fin 512) (d : Fin 32) : EReal := w (ix3 s k d)

theorem idx : ∀ t : Fin cfg0.N, win0_0.index t = ![t.val, 0] ∧ win0_1.index t = ![0, 0, 0] ∧ win0_2.index t = ![t.val, 0, 0]
    ∧ win0_3.index t = ![t.val, 0, 0] ∧ win0_4.index t = ![t.val, 0] :=
  (by decide +kernel : ∀ t : Fin grid0.N, _)

/-- The launch finds the tokens in rows. -/
theorem rows (c : Dev nD) : V m c main_call0_v0
    = shapeCast S65536x32 (m ((c : Thread nD τ).loc main_arg0)) shapeCasts_S64x1024x32_S65536x32 := by
  entry_read
  rfl

theorem rows_apply (z : FVec Ideal S64x1024x32 .f32) (p : Fin 65536) (d : Fin 32) :
    shapeCast S65536x32 z shapeCasts_S64x1024x32_S65536x32 (ix2 p d) = tokenOf z p d := by
  unfold tokenOf
  pointwise

theorem tokens (c : Dev nD) (t : Fin cfg0.N) (r : Fin 4096) (d : Fin 32) :
    iblk m c 0 t (ix2 r d) = tokenOf (m ((c : Thread nD τ).loc main_arg0)) ⟨t.val * 4096 + r.val, by have ht : t.val < 16 := t.isLt; omega⟩ d := by
  have ht : t.val < 16 := t.isLt
  have he : (win0_0.blk t).view.emb (ix2 r d) = ix2 (⟨t.val * 4096 + r.val, by omega⟩ : Fin 65536) d := by
    blk_ext [idx t]
  blk_simp [iblk]
  rw [he, rows, rows_apply]

theorem books (c : Dev nD) (t : Fin cfg0.N) (s : Fin 2) (k : Fin 512) (d : Fin 32) :
    iblk m c 1 t (ix3 s k d) = booksOf (m ((c : Thread nD τ).loc main_arg1)) s k d := by
  unfold booksOf
  blk_ext! [iblk, V, idx t]

theorem books0 (c : Dev nD) (t : Fin cfg0.N) (k : Fin 512) (d : Fin 32) :
    View.ld (iblk m c 1 t) r0_1 (ix3 0 k d) = booksOf (m ((c : Thread nD τ).loc main_arg1)) 0 k d := by
  rw [← books m c t]
  pointwise

theorem books1 (c : Dev nD) (t : Fin cfg0.N) (k : Fin 512) (d : Fin 32) :
    View.ld (iblk m c 1 t) r0_2 (ix3 0 k d) = booksOf (m ((c : Thread nD τ).loc main_arg1)) 1 k d := by
  rw [← books m c t]
  pointwise

/-- The token of a place of a block of numbers. -/
def placeOf (j : S16x1x4096.Idx) : Fin 65536 := ⟨(j 0).val * 4096 + (j 2).val, by
  have h0 : (j 0).val < 16 := (j 0).isLt
  have h2 : (j 2).val < 4096 := (j 2).isLt
  omega⟩

/-- Every first number, block by block. -/
def firsts (z : FVec Ideal S64x1024x32 .f32) (w : FVec Ideal S2x512x32 .f32) : IVec S16x1x4096 32 := fun j =>
  BitVec.ofNat 32 (Blk.num0 (tokenOf z (placeOf j)) (booksOf w) : ℕ)

/-- Every second number, block by block. -/
def seconds (z : FVec Ideal S64x1024x32 .f32) (w : FVec Ideal S2x512x32 .f32) : IVec S16x1x4096 32 := fun j =>
  BitVec.ofNat 32 (Blk.num1 (tokenOf z (placeOf j)) (booksOf w) : ℕ)

/-- Every token's value, in rows. -/
def values (z : FVec Ideal S64x1024x32 .f32) (w : FVec Ideal S2x512x32 .f32) : FVec Ideal S65536x32 .f32 := fun j =>
  Blk.value (tokenOf z (j 0)) (booksOf w) (j 1)

theorem final_firsts (c : Dev nD) : (dats m 0 c).arrAt 2 cfg0.N
    = firsts (m ((c : Thread nD τ).loc main_arg0)) (m ((c : Thread nD τ).loc main_arg1)) := by
  refine (dats m 0 c).arrAt_eq_of_covers 2 _ (by decide +kernel) fun t hf y => ?_
  have ht : t.val < 16 := t.isLt
  blk_simp
  rw [after0_2]
  frame_out
  idx_vars y
  have he : ((View.whole main_call0_v1_0).slice (win0_2.rect t)).emb (ix3 y0 y1 y2) = ix3 (⟨t.val, ht⟩ : Fin 16) 0 y2 := by
    blk_ext [idx t]
  rw [he, Blk.pay_numbers0]
  refine (Blk.block_num0 (iblk m c 0 t) (View.ld (iblk m c 1 t) r0_1) _ (books0 m c t) y2).trans ?_
  rw [show (fun d => iblk m c 0 t (ix2 y2 d)) = _ from funext (tokens m c t y2)]
  rfl

theorem final_seconds (hw : ∀ (c : Dev nD) s k d, booksOf (m ((c : Thread nD τ).loc main_arg1)) s k d ≠ ⊤ ∧ booksOf (m ((c : Thread nD τ).loc main_arg1)) s k d ≠ ⊥)
    (c : Dev nD) : (dats m 0 c).arrAt 3 cfg0.N
    = seconds (m ((c : Thread nD τ).loc main_arg0)) (m ((c : Thread nD τ).loc main_arg1)) := by
  refine (dats m 0 c).arrAt_eq_of_covers 3 _ (by decide +kernel) fun t hf y => ?_
  have ht : t.val < 16 := t.isLt
  blk_simp
  rw [after0_3]
  frame_out
  idx_vars y
  have he : ((View.whole main_call0_v1_1).slice (win0_3.rect t)).emb (ix3 y0 y1 y2) = ix3 (⟨t.val, ht⟩ : Fin 16) 0 y2 := by
    blk_ext [idx t]
  unfold k0_pay14 k0_pay15 k0_pay16
  frame_out
  rw [he, Blk.pay_numbers1]
  refine (Blk.block_num1 (iblk m c 0 t) (View.ld (iblk m c 1 t) r0_1) (View.ld (iblk m c 1 t) r0_2) _ (books0 m c t)
    (books1 m c t) (hw c) y2).trans ?_
  rw [show (fun d => iblk m c 0 t (ix2 y2 d)) = _ from funext (tokens m c t y2)]
  rfl

theorem final_values (hw : ∀ (c : Dev nD) s k d, booksOf (m ((c : Thread nD τ).loc main_arg1)) s k d ≠ ⊤ ∧ booksOf (m ((c : Thread nD τ).loc main_arg1)) s k d ≠ ⊥)
    (c : Dev nD) : (dats m 0 c).arrAt 4 cfg0.N
    = values (m ((c : Thread nD τ).loc main_arg0)) (m ((c : Thread nD τ).loc main_arg1)) := by
  refine (dats m 0 c).arrAt_eq_of_covers 4 _ (by decide +kernel) fun t hf y => ?_
  have ht : t.val < 16 := t.isLt
  blk_simp
  rw [after0_4]
  frame_out
  idx_vars y
  have he : ((View.whole main_call0_v1_2).slice (win0_4.rect t)).emb (ix2 y0 y1) = ix2 (⟨t.val * 4096 + y0.val, by omega⟩ : Fin 65536) y1 := by
    blk_ext [idx t]
  unfold k0_pay14 k0_pay15 k0_pay16
  frame_out
  rw [he]
  refine (Blk.block_value (iblk m c 0 t) (View.ld (iblk m c 1 t) r0_1) (View.ld (iblk m c 1 t) r0_2) _ (books0 m c t)
    (books1 m c t) (hw c) y0 y1).trans ?_
  rw [show (fun d => iblk m c 0 t (ix2 y0 d)) = _ from funext (tokens m c t y0)]
  rfl

/-- The two columns of numbers that the lines after the launch make first. -/
theorem after_columns (U : Valuation τ sig (Elt Ideal)) (p q : IVec S16x1x4096 32)
    (hp : U (Proc.devRef .tc main_call0_v1_0) = p) (hq : U (Proc.devRef .tc main_call0_v1_1) = q) :
    StableHlo.after ((hostOps1 (F := Ideal)).take 4) U (Proc.devRef .tc main_call0_v4)
        = broadcastInDim S64x1024x1 ![0, 1] bcast_S64x1024_S64x1024x1_0_1 (shapeCast S64x1024 p shapeCasts_S16x1x4096_S64x1024)
      ∧ StableHlo.after ((hostOps1 (F := Ideal)).take 4) U (Proc.devRef .tc main_call0_v5)
        = broadcastInDim S64x1024x1 ![0, 1] bcast_S64x1024_S64x1024x1_0_1 (shapeCast S64x1024 q shapeCasts_S16x1x4096_S64x1024) := by
  simp only [hostOps1, List.take_succ_cons, List.take_zero]
  refine ⟨?_, ?_⟩
  all_goals after_reads_simp
  · rw [hp]; rfl
  · rw [hq]; rfl

/-- The first result as the lines after the launch make it of the two arrays of numbers. -/
theorem after_numbers (U : Valuation τ sig (Elt Ideal)) (p q : IVec S16x1x4096 32)
    (hp : U (Proc.devRef .tc main_call0_v1_0) = p) (hq : U (Proc.devRef .tc main_call0_v1_1) = q) :
    StableHlo.after hostOps1 U (Proc.devRef .tc main_v0_0) =
      concatenate S64x1024x2 2
        [⟨S64x1024x1, broadcastInDim S64x1024x1 ![0, 1] bcast_S64x1024_S64x1024x1_0_1 (shapeCast S64x1024 p shapeCasts_S16x1x4096_S64x1024)⟩,
          ⟨S64x1024x1, broadcastInDim S64x1024x1 ![0, 1] bcast_S64x1024_S64x1024x1_0_1 (shapeCast S64x1024 q shapeCasts_S16x1x4096_S64x1024)⟩]
        concatenates_S64x1024x1_S64x1024x1_S64x1024x2_d2 := by
  obtain ⟨h4, h5⟩ := after_columns U p q hp hq
  rw [← List.take_append_drop 4 (hostOps1 (F := Ideal)), StableHlo.after_append, ← h4, ← h5]
  generalize StableHlo.after ((hostOps1 (F := Ideal)).take 4) U = X
  simp only [hostOps1, List.drop_succ_cons, List.drop_zero]
  after_reads_simp
  try simp -implicitDefEqProofs only [StableHlo.TRef.toBuf, StableHlo.TRef.ofBuf, cast_cast, cast_eq]
  rfl

theorem after_values (U : Valuation τ sig (Elt Ideal)) (p : FVec Ideal S65536x32 .f32)
    (hp : U (Proc.devRef .tc main_call0_v1_2) = p) :
    StableHlo.after hostOps1 U (Proc.devRef .tc main_v0_1) = shapeCast S64x1024x32 p shapeCasts_S65536x32_S64x1024x32 := by
  unfold hostOps1
  after_reads_simp
  rw [hp]
  rfl

/-- The first result: both numbers of every token. -/
def numbers (z : FVec Ideal S64x1024x32 .f32) (w : FVec Ideal S2x512x32 .f32) : IVec S64x1024x2 32 := fun j =>
  if (j 2).val < 1 then BitVec.ofNat 32 (Blk.num0 (fun d => z (ix3 (j 0) (j 1) d)) (booksOf w) : ℕ)
  else BitVec.ofNat 32 (Blk.num1 (fun d => z (ix3 (j 0) (j 1) d)) (booksOf w) : ℕ)

/-- The second result: every token's value. -/
def quantized (z : FVec Ideal S64x1024x32 .f32) (w : FVec Ideal S2x512x32 .f32) : FVec Ideal S64x1024x32 .f32 := fun j =>
  Blk.value (fun d => z (ix3 (j 0) (j 1) d)) (booksOf w) (j 2)

/-- The token at batch `b` and position `n`. -/
theorem tokenOf_eq (z : FVec Ideal S64x1024x32 .f32) (b : Fin 64) (n : Fin 1024) (p : Fin 65536) (hp : p.val = b.val * 1024 + n.val) :
    tokenOf z p = fun d => z (ix3 b n d) := by
  funext d
  unfold tokenOf
  have hb : (⟨p / 1024, by omega⟩ : Fin 64) = b := Fin.ext (by show p.val / 1024 = b.val; omega)
  have hn : (⟨p % 1024, by omega⟩ : Fin 1024) = n := Fin.ext (by show p.val % 1024 = n.val; omega)
  rw [hb, hn]

/-- The two columns of numbers side by side are the first result. -/
theorem numbers_eq (z : FVec Ideal S64x1024x32 .f32) (w : FVec Ideal S2x512x32 .f32) :
    concatenate S64x1024x2 2
        [⟨S64x1024x1, broadcastInDim S64x1024x1 ![0, 1] bcast_S64x1024_S64x1024x1_0_1 (shapeCast S64x1024 (firsts z w) shapeCasts_S16x1x4096_S64x1024)⟩,
          ⟨S64x1024x1, broadcastInDim S64x1024x1 ![0, 1] bcast_S64x1024_S64x1024x1_0_1 (shapeCast S64x1024 (seconds z w) shapeCasts_S16x1x4096_S64x1024)⟩]
        concatenates_S64x1024x1_S64x1024x1_S64x1024x2_d2 = numbers z w := by
  funext j
  idx_vars j
  pointwise
  show (if h : j2.val < 1 then _ else _) = (if j2.val < 1 then _ else _)
  split
  · unfold firsts
    rw [tokenOf_eq z j0 j1 _ (by show j0.val / 4 * 4096 + (j0.val % 4 * 1024 + j1.val) = _; omega)]
    rfl
  · unfold seconds
    rw [tokenOf_eq z j0 j1 _ (by show j0.val / 4 * 4096 + (j0.val % 4 * 1024 + j1.val) = _; omega)]
    rfl

/-- The values in rows, put back into the shape of the tokens, are the second result. -/
theorem quantized_eq (z : FVec Ideal S64x1024x32 .f32) (w : FVec Ideal S2x512x32 .f32) :
    shapeCast S64x1024x32 (values z w) shapeCasts_S65536x32_S64x1024x32 = quantized z w := by
  funext j
  idx_vars j
  pointwise
  have hp : j0.val * 1024 + j1.val < 65536 := by omega
  show Blk.value (tokenOf z ⟨j0.val * 1024 + j1.val, hp⟩) (booksOf w) j2 = _
  rw [tokenOf_eq z j0 j1 _ rfl]
  rfl

/-- Where the codebooks are finite, the kernel ends with both numbers and the value of every token, its arguments unchanged. -/
theorem run (hw : ∀ (c : Dev nD) s k d, booksOf (m ((c : Thread nD τ).loc main_arg1)) s k d ≠ ⊤ ∧ booksOf (m ((c : Thread nD τ).loc main_arg1)) s k d ≠ ⊥) :
    θ_run defs (onTc (τ := τ) (main (F := Ideal))) ⟨m, fun _ => 0, ρ⟩ fun r => ∀ c : Dev nD,
    r.2.mem ((c.tc : Thread nD τ).loc main_v0_0) = numbers (m ((c : Thread nD τ).loc main_arg0)) (m ((c : Thread nD τ).loc main_arg1))
      ∧ r.2.mem ((c.tc : Thread nD τ).loc main_v0_1) = quantized (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  have harr : ∀ (c : Dev nD) (w : Fin cfg0.W),
      Pipeline.withArrays (cfgs 0).spec c (V0 m c) (fun w => (dats m 0 c).arrAt w (cfgs 0).N) (Proc.devRef .tc (Pipeline.arrRef spec0 w))
        = (dats m 0 c).arrAt w cfg0.N := fun c w =>
    Pipeline.withArrays_arr spec0 (by decide) c (V0 m c) (fun w => (dats m 0 c).arrAt w (cfgs 0).N) w
  run_from Cert.KernelIdeal.Gen.run_main m ρ
  · exact (after_numbers _ _ _ ((harr c 2).trans (final_firsts m c)) ((harr c 3).trans (final_seconds m hw c))).trans (numbers_eq _ _)
  · exact (after_values _ _ ((harr c 4).trans (final_values m hw c))).trans (quantized_eq _ _)
  · exact W_main_arg0 m (dats m) c

end Cert.Run

end
-- ==== Proof.Equal.lean ====
/- The two results of the reference are those of the kernel. -/
module

public import proofs.«01_k».proof.Proof.RefValue
public import proofs.«01_k».proof.Proof.Run

@[expose] public section

noncomputable section

namespace Cert.Equal

open Idealize.ShloMosaic Idealize.SL.Sem Cert.ReferenceIdeal Cert.Ref Cert.Run

variable (z : FVec Ideal S64x1024x32 .f32) (w : FVec Ideal S2x512x32 .f32) (b : Fin 64) (n : Fin 1024)

/-- What is left of a token before the first pass is the token. -/
theorem start_apply (d : Fin 32) : refSub z refZero (ix3 b n d) = z (ix3 b n d) := by
  show (z (ix3 b n d) - refZero (ix3 b n d) : EReal) = _
  rw [refZero_apply]
  exact sub_zero _

/-- The number that the reference finds in the first pass is that of the nearest code. -/
theorem idx0_apply : refIdx0 z w (ix2 b n) = BitVec.ofNat 32 (Blk.num0 (fun d => z (ix3 b n d)) (booksOf w) : ℕ) := by
  unfold refIdx0
  rw [refIndex_apply]
  simp only [refDist_apply, start_apply, refBook0_apply]
  rfl

/-- What the reference has gathered after the first pass is the first code. -/
theorem sum0_apply (d : Fin 32) :
    refSum0 z w (ix3 b n d) = Blk.code0 (fun d => z (ix3 b n d)) (booksOf w) d := by
  show (refZero (ix3 b n d) + refTake (refBook0 w) (refIdx0 z w) (ix3 b n d) : EReal) = _
  rw [refZero_apply, refTake_apply _ _ b n d _ (idx0_apply z w b n), refBook0_apply]
  exact zero_add _

/-- What is left of a token before the second pass is the token less its first code. -/
theorem rest_apply (d : Fin 32) :
    refSub z (refSum0 z w) (ix3 b n d) = (z (ix3 b n d) - Blk.code0 (fun d => z (ix3 b n d)) (booksOf w) d : EReal) := by
  rw [← sum0_apply]
  rfl

/-- The number that the reference finds in the second pass is that of the code nearest to what the first left. -/
theorem idx1_apply : refIdx1 z w (ix2 b n) = BitVec.ofNat 32 (Blk.num1 (fun d => z (ix3 b n d)) (booksOf w) : ℕ) := by
  unfold refIdx1
  rw [refIndex_apply]
  simp only [refDist_apply, rest_apply, refBook1_apply]
  rfl

/-- What the reference has gathered after the second pass is the sum of both codes. -/
theorem sum1_apply (d : Fin 32) :
    refSum1 z w (ix3 b n d) = (Blk.code0 (fun d => z (ix3 b n d)) (booksOf w) d
      + booksOf w 1 (Blk.num1 (fun d => z (ix3 b n d)) (booksOf w)) d : EReal) := by
  show (refSum0 z w (ix3 b n d) + refTake (refBook1 w) (refIdx1 z w) (ix3 b n d) : EReal) = _
  rw [sum0_apply, refTake_apply _ _ b n d _ (idx1_apply z w b n), refBook1_apply]
  rfl

theorem numbers_apply (s : Fin 2) : refNumbers z w (ix3 b n s) = numbers z w (ix3 b n s) := by
  have h0 := idx0_apply z w b n
  have h1 := idx1_apply z w b n
  unfold refNumbers
  generalize refIdx0 z w = p at h0 ⊢
  generalize refIdx1 z w = q at h1 ⊢
  rw [pair_apply, h0, h1]
  rfl

theorem value_apply (d : Fin 32) : refValue z w (ix3 b n d) = quantized z w (ix3 b n d) := by
  show (z (ix3 b n d) + (refSum1 z w (ix3 b n d) - z (ix3 b n d)) : EReal) = _
  rw [sum1_apply]
  rfl

/-- The first results agree, whatever the arguments. -/
theorem numbers_eq : refNumbers z w = numbers z w := by
  funext j
  idx_vars j
  exact numbers_apply z w j0 j1 j2

/-- The second results agree, whatever the arguments. -/
theorem value_eq : refValue z w = quantized z w := by
  funext j
  idx_vars j
  exact value_apply z w j0 j1 j2

end Cert.Equal

end
-- ==== Proof.Finite.lean ====
/- What the precondition says of a codebook's entries. -/
module

public import proofs.«01_k».proof.Defs
public import proofs.«01_k».proof.Proof.Gen.Pre_finite_codebooks
public import proofs.«01_k».proof.Proof.Run

@[expose] public section

noncomputable section

namespace Cert.Finite

open Idealize.ShloMosaic Idealize.SL.Sem Cert.Pre_finite_codebooks

/-- Where an entry's size is below infinity, the entry is neither infinity. -/
theorem entry (x : EReal) (h : max x (-x) < ⊤) : x ≠ ⊤ ∧ x ≠ ⊥ := by
  constructor
  · rintro rfl
    exact absurd h (by simp)
  · rintro rfl
    exact absurd h (by simp)

/-- Where the precondition holds, every entry of the codebooks is finite. -/
theorem books [Facts] (z : FVec Ideal S64x1024x32 .f32) (w : FVec Ideal S2x512x32 .f32)
    (h : fn (F := Ideal) z w = fun _ => 1#1) (s : Fin 2) (k : Fin 512) (d : Fin 32) :
    Run.booksOf w s k d ≠ ⊤ ∧ Run.booksOf w s k d ≠ ⊥ := by
  have e : Ideal.cmp .olt (max (w (ix3 s k d)) (-(w (ix3 s k d)))) (Ideal.ofBits FTy.f32 2139095040#32) = 1#1 :=
    congrFun h (ix3 s k d)
  rw [Blk.inf_bits] at e
  refine entry (w (ix3 s k d)) ?_
  by_contra hn
  have e' : BitVec.ofBool (decide (max (w (ix3 s k d) : EReal) (-(w (ix3 s k d))) < ⊤)) = 1#1 := e
  rw [decide_eq_false hn] at e'
  exact absurd e' (by decide)

end Cert.Finite

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_codebooks
public import proofs.«01_k».proof.Proof.Equal
public import proofs.«01_k».proof.Proof.Finite
public import Idealize.ShloMosaic.Adequacy
public import Idealize.ShloMosaic.Init
public import Idealize.ShloMosaic.Lib.Claim

@[expose] public section

noncomputable section

namespace Cert.Proof

open Idealize.ShloMosaic Idealize.SL.Sem

/-- The reference ends with its arguments unchanged and no semaphore raised. -/
theorem frame_Reference : Cert.quiescent_ReferenceIdeal (hReferenceIdeal := Cert.ReferenceIdeal.Gen.facts) := by
  intro m g _
  exact Cert.Ref.frame m g

/-- All the claims. The two value results of the kernel and of the reference are both `Run.numbers` and
    `Run.quantized` of the arguments, where the codebooks are finite. -/
theorem claim : Cert.Claim :=
  ⟨Cert.Kernel.Gen.facts, Cert.KernelIdeal.Gen.facts, Cert.ReferenceIdeal.Gen.facts, Cert.Pre_finite_codebooks.Gen.facts,
    fun m ρ _ => Cert.Kernel.Gen.frame m ρ, fun m ρ _ => Cert.KernelIdeal.Gen.frame m ρ, fun m ρ _ => Cert.KernelIdeal.Gen.frame m ρ,
    frame_Reference, fun m ρ _ => frame_Reference m ρ trivial, trivial, by
  intro m g m' g' hpre hag
  refine ⟨fun c => Cert.Run.numbers (m (c.tc.loc Cert.KernelIdeal.main_arg0)) (m (c.tc.loc Cert.KernelIdeal.main_arg1)),
    fun c => Cert.Run.quantized (m (c.tc.loc Cert.KernelIdeal.main_arg0)) (m (c.tc.loc Cert.KernelIdeal.main_arg1)),
    Cert.Run.run m g (fun c => Cert.Finite.books _ _ (hpre c)), ?_⟩
  refine θ_run_mono (Cert.Ref.run m' g') fun r hr c => ?_
  obtain ⟨h0, h1, ha⟩ := hr c
  rw [(hag c).1, (hag c).2] at h0 h1
  exact ⟨h0.trans (Cert.Equal.numbers_eq _ _), h1.trans (Cert.Equal.value_eq _ _), ha⟩⟩

end Cert.Proof

end
